-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_bf16 [hPre_finite_bf16 : Cert.Pre_finite_bf16.Facts] (m : (ℓ : Loc Cert.KernelIdeal.nD Cert.KernelIdeal.τ Cert.KernelIdeal.sig) → Buf (Elt Ideal) ℓ) : Prop :=
  ∀ c : Dev Cert.KernelIdeal.nD,
    (Cert.Pre_finite_bf16.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_bf16 [hPre_finite_bf16 : Cert.Pre_finite_bf16.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_bf16.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_bf16 [hKernelIdeal : Cert.KernelIdeal.Facts] [hPre_finite_bf16 : Cert.Pre_finite_bf16.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_bf16 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_bf16 [hReferenceIdeal : Cert.ReferenceIdeal.Facts] [hPre_finite_bf16 : Cert.Pre_finite_bf16.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_bf16 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "log2e_over_temperature" .f32 0x3FE6D4CA#32 (((Real.log 2)⁻¹ * (13421773 / 16777216)⁻¹ : ℝ) : EReal)

def algebraic_KernelIdeal_ReferenceIdeal_pre_finite_bf16 [hKernelIdeal : Cert.KernelIdeal.Facts] [hReferenceIdeal : Cert.ReferenceIdeal.Facts] [hPre_finite_bf16 : Cert.Pre_finite_bf16.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_bf16 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_bf16 : Cert.Pre_finite_bf16.Facts),
    quiescent_Kernel (hKernel := hKernel)
    ∧ quiescent_KernelIdeal (hKernelIdeal := hKernelIdeal)
    ∧ quiescent_KernelIdeal_pre_finite_bf16 (hKernelIdeal := hKernelIdeal) (hPre_finite_bf16 := hPre_finite_bf16)
    ∧ quiescent_ReferenceIdeal (hReferenceIdeal := hReferenceIdeal)
    ∧ quiescent_ReferenceIdeal_pre_finite_bf16 (hReferenceIdeal := hReferenceIdeal) (hPre_finite_bf16 := hPre_finite_bf16)
    ∧ preserves_Kernel_KernelIdeal
    ∧ algebraic_KernelIdeal_ReferenceIdeal_pre_finite_bf16 (hKernelIdeal := hKernelIdeal) (hReferenceIdeal := hReferenceIdeal) (hPre_finite_bf16 := hPre_finite_bf16)
-- ==== Pre_finite_bf16.lean ====
abbrev S2x3072x50304 : Shape := ⟨3, ![2, 3072, 50304]⟩
abbrev S_ : Shape := ⟨0, ![]⟩

class Facts : Prop where
  bcast_S_S2x3072x50304 : S_.BroadcastsInDim S2x3072x50304 (![] : Fin 0 → Fin S2x3072x50304.rank)

variable [Facts]

def fn {F : FTy → Type} [FloatOps F] (main_arg0 : FVec F S2x3072x50304 .bf16) : IVec S2x3072x50304 1 :=
  let main_v0 : FVec F S2x3072x50304 .bf16 := Host.absf main_arg0
  let main_cst : FVec F S_ .bf16 := constant S_ .bf16 0x7F7F#16
  let main_v1 : FVec F S2x3072x50304 .bf16 := broadcastInDim S2x3072x50304 ![] bcast_S_S2x3072x50304 main_cst
  let main_v2 : IVec S2x3072x50304 1 := cmpf .ole main_v0 main_v1
  main_v2
-- ==== Kernel.lean ====
abbrev S2x3072x50304 : Shape := ⟨3, ![2, 3072, 50304]⟩
abbrev S6144x50304 : Shape := ⟨2, ![6144, 50304]⟩
abbrev S6144x1 : Shape := ⟨2, ![6144, 1]⟩
abbrev S32x50304 : Shape := ⟨2, ![32, 50304]⟩
abbrev S32x1 : Shape := ⟨2, ![32, 1]⟩
abbrev S32x128 : Shape := ⟨2, ![32, 128]⟩
abbrev S32 : Shape := ⟨1, ![32]⟩
abbrev S32x256 : Shape := ⟨2, ![32, 256]⟩

abbrev nBuf : Space → Nat
  | .hbm => 5
  | .vmem => 8
  | .smem => 0
  | _ => 0

abbrev bufTy : (tb : Table) → Fin (tcTables nBuf tb) → BufTy
  | .hbm, ⟨0, _⟩ => ⟨S2x3072x50304, .bf16⟩
  | .hbm, ⟨1, _⟩ => ⟨S6144x50304, .bf16⟩
  | .hbm, ⟨2, _⟩ => ⟨S6144x1, .f32⟩
  | .hbm, ⟨3, _⟩ => ⟨S6144x50304, .fp8e4m3⟩
  | .hbm, ⟨4, _⟩ => ⟨S6144x1, .f32⟩
  | .local _ .vmem, ⟨0, _⟩ => ⟨S32x50304, .bf16⟩
  | .local _ .vmem, ⟨1, _⟩ => ⟨S32x50304, .bf16⟩
  | .local _ .vmem, ⟨2, _⟩ => ⟨S32x1, .f32⟩
  | .local _ .vmem, ⟨3, _⟩ => ⟨S32x1, .f32⟩
  | .local _ .vmem, ⟨4, _⟩ => ⟨S32x50304, .fp8e4m3⟩
  | .local _ .vmem, ⟨5, _⟩ => ⟨S32x50304, .fp8e4m3⟩
  | .local _ .vmem, ⟨6, _⟩ => ⟨S32x1, .f32⟩
  | .local _ .vmem, ⟨7, _⟩ => ⟨S32x1, .f32⟩
  | _, _ => ⟨S2x3072x50304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![192], ![false]⟩

@[reducible] def k0_t1_loop : Scf.Loop 32 :=
  let c0_i32 : BitVec 32 := 0#32
  let c49_i32 : BitVec 32 := 49#32
  let v3 : BitVec 32 := Scalar.addi c0_i32 c49_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c1024_i32 : BitVec 32 := 1024#32
  let v87 : BitVec 32 := Scalar.muli arg5 c1024_i32
  v87
def k0_off1 (k0_t1 : Fin k0_t1_loop.trips) (c0_i32_39 : BitVec 32) : Fin 2 → Nat :=
  let c0_40 : Index := 0#32
  let c0_i32 : BitVec 32 := 0#32
  let c1_i32 : BitVec 32 := 1#32
  let arg5 : BitVec 32 := Scf.iv c0_i32 c1_i32 k0_t1
  let c1024_i32 : BitVec 32 := 1024#32
  let v87 : BitVec 32 := Scalar.muli arg5 c1024_i32
  let v88 : BitVec 32 := v87
  let v89 : BitVec 32 := Scalar.addi v88 c0_i32_39
  let v90 : Index := Scalar.indexCast v89
  ![0, v90.toNat]
@[reducible] def k0_t2_loop : Scf.Loop 32 :=
  let c0_i32_8 : BitVec 32 := 0#32
  let c49_i32_9 : BitVec 32 := 49#32
  let v18 : BitVec 32 := Scalar.addi c0_i32_8 c49_i32_9
  let c1_i32_10 : BitVec 32 := 1#32
  ⟨c0_i32_8, v18, c1_i32_10⟩
def k0_mult2 (k0_t2 : Fin k0_t2_loop.trips) : BitVec 32 :=
  let c0_i32_8 : BitVec 32 := 0#32
  let c1_i32_10 : BitVec 32 := 1#32
  let arg5 : BitVec 32 := Scf.iv c0_i32_8 c1_i32_10 k0_t2
  let c1024_i32 : BitVec 32 := 1024#32
  let v87 : BitVec 32 := Scalar.muli arg5 c1024_i32
  v87
def k0_off2 (k0_t2 : Fin k0_t2_loop.trips) (c0_i32_39 : BitVec 32) : Fin 2 → Nat :=
  let c0_40 : Index := 0#32
  let c0_i32_8 : BitVec 32 := 0#32
  let c1_i32_10 : BitVec 32 := 1#32
  let arg5 : BitVec 32 := Scf.iv c0_i32_8 c1_i32_10 k0_t2
  let c1024_i32 : BitVec 32 := 1024#32
  let v87 : BitVec 32 := Scalar.muli arg5 c1024_i32
  let v88 : BitVec 32 := v87
  let v89 : BitVec 32 := Scalar.addi v88 c0_i32_39
  let v90 : Index := Scalar.indexCast v89
  ![0, v90.toNat]
@[reducible] def k0_t3_loop : Scf.Loop 32 :=
  let c0_i32_29 : BitVec 32 := 0#32
  let c49_i32_30 : BitVec 32 := 49#32
  let v75 : BitVec 32 := Scalar.addi c0_i32_29 c49_i32_30
  let c1_i32_31 : BitVec 32 := 1#32
  ⟨c0_i32_29, v75, c1_i32_31⟩
def k0_mult3 (k0_t3 : Fin k0_t3_loop.trips) : BitVec 32 :=
  let c0_i32_29 : BitVec 32 := 0#32
  let c1_i32_31 : BitVec 32 := 1#32
  let arg5 : BitVec 32 := Scf.iv c0_i32_29 c1_i32_31 k0_t3
  let c1024_i32 : BitVec 32 := 1024#32
  let v87 : BitVec 32 := Scalar.muli arg5 c1024_i32
  v87
def k0_off3 (k0_t3 : Fin k0_t3_loop.trips) (c0_i32_39 : BitVec 32) : Fin 2 → Nat :=
  let c0_40 : Index := 0#32
  let c0_i32_29 : BitVec 32 := 0#32
  let c1_i32_31 : BitVec 32 := 1#32
  let arg5 : BitVec 32 := Scf.iv c0_i32_29 c1_i32_31 k0_t3
  let c1024_i32 : BitVec 32 := 1024#32
  let v87 : BitVec 32 := Scalar.muli arg5 c1024_i32
  let v88 : BitVec 32 := v87
  let v89 : BitVec 32 := Scalar.addi v88 c0_i32_39
  let v90 : Index := Scalar.indexCast v89
  ![0, v90.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x50304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x50304 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "log2e_over_temperature" => some (((Real.log 2)⁻¹ * (13421773 / 16777216)⁻¹ : ℝ) : EReal)
  | _ => none
-- ==== ReferenceIdeal.lean ====
abbrev S2x3072x50304 : Shape := ⟨3, ![2, 3072, 50304]⟩
abbrev S6144x50304 : Shape := ⟨2, ![6144, 50304]⟩
abbrev S_ : Shape := ⟨0, ![]⟩
abbrev S6144 : Shape := ⟨1, ![6144]⟩
abbrev S6144x1 : Shape := ⟨2, ![6144, 1]⟩

abbrev nBuf : Space → Nat
  | .hbm => 53
  | .vmem => 0
  | .smem => 0
  | _ => 0

abbrev bufTy : (tb : Table) → Fin (tcTables nBuf tb) → BufTy
  | .hbm, ⟨0, _⟩ => ⟨S2x3072x50304, .bf16⟩
  | .hbm, ⟨1, _⟩ => ⟨S6144x50304, .bf16⟩
  | .hbm, ⟨2, _⟩ => ⟨S6144x50304, .f32⟩
  | .hbm, ⟨3, _⟩ => ⟨S_, .f32⟩
  | .hbm, ⟨4, _⟩ => ⟨S6144x50304, .f32⟩
  | .hbm, ⟨5, _⟩ => ⟨S6144x50304, .f32⟩
  | .hbm, ⟨6, _⟩ => ⟨S_, .f32⟩
  | .hbm, ⟨7, _⟩ => ⟨S6144, .f32⟩
  | .hbm, ⟨8, _⟩ => ⟨S6144x1, .f32⟩
  | .hbm, ⟨9, _⟩ => ⟨S_, .f32⟩
  | .hbm, ⟨10, _⟩ => ⟨S6144, .f32⟩
  | .hbm, ⟨11, _⟩ => ⟨S6144x1, .f32⟩
  | .hbm, ⟨12, _⟩ => ⟨S6144x50304, .f32⟩
  | .hbm, ⟨13, _⟩ => ⟨S6144x50304, .f32⟩
  | .hbm, ⟨14, _⟩ => ⟨S6144x50304, .f32⟩
  | .hbm, ⟨15, _⟩ => ⟨S_, .f32⟩
  | .hbm, ⟨16, _⟩ => ⟨S6144, .f32⟩
  | .hbm, ⟨17, _⟩ => ⟨S6144x1, .f32⟩
  | .hbm, ⟨18, _⟩ => ⟨S6144x1, .f32⟩
  | .hbm, ⟨19, _⟩ => ⟨S6144x1, .f32⟩
  | .hbm, ⟨20, _⟩ => ⟨S6144x50304, .f32⟩
  | .hbm, ⟨21, _⟩ => ⟨S6144x50304, .f32⟩
  | .hbm, ⟨22, _⟩ => ⟨S6144x1, .f32⟩
  | .hbm, ⟨23, _⟩ => ⟨S_, .f32⟩
  | .hbm, ⟨24, _⟩ => ⟨S6144x1, .f32⟩
  | .hbm, ⟨25, _⟩ => ⟨S6144x1, .f32⟩
  | .hbm, ⟨26, _⟩ => ⟨S6144x1, .f32⟩
  | .hbm, ⟨27, _⟩ => ⟨S_, .f32⟩
  | .hbm, ⟨28, _⟩ => ⟨S_, .f32⟩
  | .hbm, ⟨29, _⟩ => ⟨S6144x1, .f32⟩
  | .hbm, ⟨30, _⟩ => ⟨S6144x1, .f32⟩
  | .hbm, ⟨31, _⟩ => ⟨S6144x1, .f32⟩
  | .hbm, ⟨32, _⟩ => ⟨S_, .f32⟩
  | .hbm, ⟨33, _⟩ => ⟨S6144x1, .f32⟩
  | .hbm, ⟨34, _⟩ => ⟨S6144x1, .f32⟩
  | .hbm, ⟨35, _⟩ => ⟨S_, .f32⟩
  | .hbm, ⟨36, _⟩ => ⟨S6144x1, .f32⟩
  | .hbm, ⟨37, _⟩ => ⟨S6144x1, .f32⟩
  | .hbm, ⟨38, _⟩ => ⟨S_, .f32⟩
  | .hbm, ⟨39, _⟩ => ⟨S6144x1, .f32⟩
  | .hbm, ⟨40, _⟩ => ⟨S6144x1, .f32⟩
  | .hbm, ⟨41, _⟩ => ⟨S6144x1, .f32⟩
  | .hbm, ⟨42, _⟩ => ⟨S6144x50304, .f32⟩
  | .hbm, ⟨43, _⟩ => ⟨S6144x50304, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S6144x50304, .f32⟩
  | .hbm, ⟨48, _⟩ => ⟨S6144x50304, .f32⟩
  | .hbm, ⟨49, _⟩ => ⟨S_, .f32⟩
  | .hbm, ⟨50, _⟩ => ⟨S6144x50304, .f32⟩
  | .hbm, ⟨51, _⟩ => ⟨S6144x50304, .f32⟩
  | .hbm, ⟨52, _⟩ => ⟨S6144x50304, .fp8e4m3⟩
  | _, _ => ⟨S2x3072x50304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_4 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_5 : Ref sig .tc := ⟨.hbm, 32, rfl⟩
abbrev main_v25 : Ref sig .tc := ⟨.hbm, 33, rfl⟩
abbrev main_v26 : Ref sig .tc := ⟨.hbm, 34, rfl⟩
abbrev main_cst_6 : Ref sig .tc := ⟨.hbm, 35, rfl⟩
abbrev main_v27 : Ref sig .tc := ⟨.hbm, 36, rfl⟩
abbrev main_v28 : Ref sig .tc := ⟨.hbm, 37, rfl⟩
abbrev main_cst_7 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_8 : Ref sig .tc := ⟨.hbm, 44, rfl⟩
abbrev main_cst_9 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== Proof.Loops.lean ====
module

public import proofs.«01_k».proof.Proof.Gen.KernelIdeal.Frame
public import Idealize.ShloMosaic.Lib.Pipeline.Value
public import Idealize.ShloMosaic.Lib.ValueIdx
public import Idealize.ShloMosaic.PureOps.Ideal.Laws

@[expose] public section

set_option maxRecDepth 16384

noncomputable section

namespace Cert.KernelIdeal.Block

open Cert.KernelIdeal Cert.KernelIdeal.Gen
open Idealize.ShloMosaic Idealize.ShloMosaic.TcCoe Idealize.SL.Sem
open Idealize.ShloMosaic.ValueIdx

/-- Fold the values `g 0, g 1, …, g (n-1)` one after another into `a`. -/
def chain {α : Type} (step : α → ℕ → α) (a : α) : ℕ → α
  | 0 => a
  | n + 1 => step (chain step a n) n

/-- Row `r` of the block at column `n` (any natural number; `0` past the last column). -/
def col (X : Vec Ideal S32x50304 .bf16) (r : Fin 32) (n : ℕ) : EReal :=
  if h : n < 50304 then X (ix2 r ⟨n, h⟩) else 0

/-- A load of 128 columns from column `o` on, read at one lane: the block's row at column `o + l`. -/
theorem load_at (arg1 : Memref sig .tc .vmem S32x50304 .bf16) (harg1 : arg1.IsWhole) (X : Vec Ideal S32x50304 .bf16)
    (off : Fin 2 → ℕ) (o : ℕ) (hoff : off = ![0, o]) (inb : ∀ a, off a + S32x128.size a ≤ S32x50304.size a)
    (r : Fin 32) (l : Fin 128) :
    (View.readAt (Elt Ideal) arg1.view (Rect.unit (s := S32x50304) off S32x128.size inb).toLoadRect (harg1.unread X) : S32x128.Idx → EReal) (ix2 r l)
      = col X r (o + l.val) := by
  subst hoff
  rw [View.readAt_eq_ld, harg1.read_unread]
  have h1 : o + 128 ≤ 50304 := inb 1
  have h2 : o + l.val < 50304 := by omega
  unfold col
  rw [dif_pos h2]
  show X _ = X _
  congr 1
  funext a
  fin_cases a
  · apply Fin.ext; show 0 + _ = _; simp
  · apply Fin.ext; show o + _ = _; simp

variable (c : Dev nD) (i : grid0.Coords) (arg1 : Memref sig .tc .vmem S32x50304 .bf16) (harg1 : arg1.IsWhole)
  (arg2 : Memref sig .tc .vmem S32x1 .f32) (harg2 : arg2.IsWhole) (arg3 : Memref sig .tc .vmem S32x50304 .fp8e4m3)
  (harg3 : arg3.IsWhole) (arg4 : Memref sig .tc .vmem S32x1 .f32) (harg4 : arg4.IsWhole)
  (X : Vec Ideal S32x50304 .bf16)

/-- The lane's value in chunk `n` of 128 columns. -/
def lane (X : Vec Ideal S32x50304 .bf16) (r : Fin 32) (l : Fin 128) (n : ℕ) : EReal := col X r (128 * n + l.val)

/-- The `j`-th of the eight loads a trip of the first loop makes. -/
abbrev ld1 (k : Fin k0_t1_loop.trips) (j : Fin 8) : Vec Ideal S32x128 .bf16 :=
  View.readAt (Elt Ideal) arg1.view (Rect.unit (s := S32x50304) (k0_off1 k (BitVec.ofNat 32 (128 * j.val))) S32x128.size (k0_off1_inb k j)).toLoadRect (harg1.unread X)

/-- The `j`-th of the eight loads a trip of the second loop makes. -/
abbrev ld2 (k : Fin k0_t2_loop.trips) (j : Fin 8) : Vec Ideal S32x128 .bf16 :=
  View.readAt (Elt Ideal) arg1.view (Rect.unit (s := S32x50304) (k0_off2 k (BitVec.ofNat 32 (128 * j.val))) S32x128.size (k0_off2_inb k j)).toLoadRect (harg1.unread X)

/-- The first loop's `j`-th load of trip `k` is chunk `8 k + j`. -/
theorem ld1_at (k : Fin k0_t1_loop.trips) (j : Fin 8) (r : Fin 32) (l : Fin 128) :
    ld1 arg1 harg1 X k j (ix2 r l) = lane X r l (8 * k.val + j.val) := by
  refine (load_at arg1 harg1 X _ _ (k0_off1_eq k j) _ r l).trans ?_
  unfold lane; congr 1; omega

/-- The second loop's `j`-th load of trip `k` is chunk `8 k + j`. -/
theorem ld2_at (k : Fin k0_t2_loop.trips) (j : Fin 8) (r : Fin 32) (l : Fin 128) :
    ld2 arg1 harg1 X k j (ix2 r l) = lane X r l (8 * k.val + j.val) := by
  refine (load_at arg1 harg1 X _ _ (k0_off2_eq k j) _ r l).trans ?_
  unfold lane; congr 1; omega

/-- What one trip of the first loop carries on: the maximum and the minimum with the eight loaded chunks. -/
theorem trip1_eq (k : Fin k0_t1_loop.trips) (acc : FVec Ideal S32x128 .bf16 × FVec Ideal S32x128 .bf16) :
    tripR_k0_t1 (F := Ideal) Variants.none c none i arg1 harg1 arg2 harg2 arg3 harg3 arg4 harg4 (harg1.unread X) k acc
      = (k0_pay22 (k0_pay9 acc.1 (ld1 arg1 harg1 X k 0) (ld1 arg1 harg1 X k 1) (ld1 arg1 harg1 X k 2) (ld1 arg1 harg1 X k 3)
            (ld1 arg1 harg1 X k 4) (ld1 arg1 harg1 X k 5) (ld1 arg1 harg1 X k 6)) (ld1 arg1 harg1 X k 7),
         k0_pay23 (k0_pay10 acc.2 (ld1 arg1 harg1 X k 0) (ld1 arg1 harg1 X k 1) (ld1 arg1 harg1 X k 2) (ld1 arg1 harg1 X k 3)
            (ld1 arg1 harg1 X k 4) (ld1 arg1 harg1 X k 5) (ld1 arg1 harg1 X k 6)) (ld1 arg1 harg1 X k 7)) := by
  unfold tripR_k0_t1 trip_k0_t1
  rfl

/-- One trip of the first loop folds eight chunks into the running maximum. -/
theorem trip1_max (k : Fin k0_t1_loop.trips) (acc : FVec Ideal S32x128 .bf16 × FVec Ideal S32x128 .bf16) (r : Fin 32) (l : Fin 128)
    (a : EReal) (ha : acc.1 (ix2 r l) = chain (fun x n => max x (lane X r l n)) a (8 * k.val)) :
    (tripR_k0_t1 (F := Ideal) Variants.none c none i arg1 harg1 arg2 harg2 arg3 harg3 arg4 harg4 (harg1.unread X) k acc).1 (ix2 r l)
      = chain (fun x n => max x (lane X r l n)) a (8 * (k.val + 1)) := by
  rw [trip1_eq]
  unfold k0_pay22 k0_pay21 k0_pay9 k0_pay8 k0_pay7 k0_pay6 k0_pay5 k0_pay4 k0_pay3 k0_pay2
  simp only [shapeCast_self, maximumf_apply, ld1_at, ha]
  rfl

/-- One trip of the first loop folds eight chunks into the running minimum. -/
theorem trip1_min (k : Fin k0_t1_loop.trips) (acc : FVec Ideal S32x128 .bf16 × FVec Ideal S32x128 .bf16) (r : Fin 32) (l : Fin 128)
    (a : EReal) (ha : acc.2 (ix2 r l) = chain (fun x n => min x (lane X r l n)) a (8 * k.val)) :
    (tripR_k0_t1 (F := Ideal) Variants.none c none i arg1 harg1 arg2 harg2 arg3 harg3 arg4 harg4 (harg1.unread X) k acc).2 (ix2 r l)
      = chain (fun x n => min x (lane X r l n)) a (8 * (k.val + 1)) := by
  rw [trip1_eq]
  unfold k0_pay23 k0_pay21 k0_pay10 k0_pay8 k0_pay7 k0_pay6 k0_pay5 k0_pay4 k0_pay3 k0_pay2
  simp only [shapeCast_self, minimumf_apply, ld1_at, ha]
  rfl

/-- After `k` trips the first loop carries, in each lane, the maximum and minimum over the first `8 k` chunks. -/
theorem st1_at (init : FVec Ideal S32x128 .bf16 × FVec Ideal S32x128 .bf16) (r : Fin 32) (l : Fin 128) (k : ℕ) (hk : k ≤ k0_t1_loop.trips) :
    (st_k0_t1 (F := Ideal) Variants.none c none i arg1 harg1 arg2 harg2 arg3 harg3 arg4 harg4 (harg1.unread X) init k).1 (ix2 r l)
        = chain (fun x n => max x (lane X r l n)) (init.1 (ix2 r l)) (8 * k)
    ∧ (st_k0_t1 (F := Ideal) Variants.none c none i arg1 harg1 arg2 harg2 arg3 harg3 arg4 harg4 (harg1.unread X) init k).2 (ix2 r l)
        = chain (fun x n => min x (lane X r l n)) (init.2 (ix2 r l)) (8 * k) := by
  induction k with
  | zero => exact ⟨rfl, rfl⟩
  | succ k ih =>
    have ih := ih (by omega)
    have hs := st_k0_t1_succ (F := Ideal) Variants.none c none i arg1 harg1 arg2 harg2 arg3 harg3 arg4 harg4 (harg1.unread X) init ⟨k, hk⟩
    simp only at hs
    rw [hs]
    exact ⟨trip1_max c i arg1 harg1 arg2 harg2 arg3 harg3 arg4 harg4 X ⟨k, hk⟩ _ r l _ ih.1,
      trip1_min c i arg1 harg1 arg2 harg2 arg3 harg3 arg4 harg4 X ⟨k, hk⟩ _ r l _ ih.2⟩

/-- The constant `log2(e) / temperature` the exponentials are scaled by. -/
abbrev cexp : EReal := Named.named (F := Ideal) κ "log2e_over_temperature" (φ := .f32) 0x3FE6D4CA#32

/-- One term of the sum: `2` to the power `(x - m)` times the constant `log2(e) / temperature`. -/
def term (m x : EReal) : EReal := Ideal.exp2 ((x - m) * cexp)

/-- What one trip of the second loop carries on: the running sum with the eight loaded chunks' terms added. -/
theorem trip2_eq (v4 : FVec Ideal S32x128 .bf16) (v5 : Vec Ideal S32x128 .bf16) (k : Fin k0_t2_loop.trips) (acc : FVec Ideal S32x128 .f32) :
    tripR_k0_t2 (F := Ideal) Variants.none c none i arg1 harg1 arg2 harg2 arg3 harg3 arg4 harg4 v4 v5 cexp (harg1.unread X) k acc
      = k0_pay28 v4 v5
          (k0_pay11 (k0_pay26 v4 v5) cexp acc (ld2 arg1 harg1 X k 0) (ld2 arg1 harg1 X k 1) (ld2 arg1 harg1 X k 2) (ld2 arg1 harg1 X k 3))
          (k0_pay12 (k0_pay26 v4 v5) (ld2 arg1 harg1 X k 4)) (ld2 arg1 harg1 X k 5) (ld2 arg1 harg1 X k 6) (ld2 arg1 harg1 X k 7) := by
  unfold tripR_k0_t2 trip_k0_t2
  rfl

/-- One trip of the second loop adds eight chunks' terms to the running sum. -/
theorem trip2_at (v4 : FVec Ideal S32x128 .bf16) (v5 : Vec Ideal S32x128 .bf16) (k : Fin k0_t2_loop.trips) (acc : FVec Ideal S32x128 .f32)
    (r : Fin 32) (l : Fin 128) (m : EReal) (hm : k0_pay26 (F := Ideal) v4 v5 (ix2 r l) = m)
    (a : EReal) (ha : acc (ix2 r l) = chain (fun x n => x + term m (lane X r l n)) a (8 * k.val)) :
    (tripR_k0_t2 (F := Ideal) Variants.none c none i arg1 harg1 arg2 harg2 arg3 harg3 arg4 harg4 v4 v5 cexp (harg1.unread X) k acc) (ix2 r l)
      = chain (fun x n => x + term m (lane X r l n)) a (8 * (k.val + 1)) := by
  rw [trip2_eq]
  unfold k0_pay28 k0_pay11 k0_pay12
  simp only [shapeCast_self, addf_apply, exp2, mulf_apply, subf_apply, extf_apply, broadcast_apply, ld2_at, ha, hm]
  rfl

/-- After `k` trips the second loop carries, in each lane, the sum of the first `8 k` chunks' terms. -/
theorem st2_at (v4 : FVec Ideal S32x128 .bf16) (v5 : Vec Ideal S32x128 .bf16) (init : FVec Ideal S32x128 .f32) (r : Fin 32) (l : Fin 128)
    (m : EReal) (hm : k0_pay26 (F := Ideal) v4 v5 (ix2 r l) = m) (k : ℕ) (hk : k ≤ k0_t2_loop.trips) :
    (st_k0_t2 (F := Ideal) Variants.none c none i arg1 harg1 arg2 harg2 arg3 harg3 arg4 harg4 v4 v5 cexp (harg1.unread X) init k) (ix2 r l)
        = chain (fun x n => x + term m (lane X r l n)) (init (ix2 r l)) (8 * k) := by
  induction k with
  | zero => rfl
  | succ k ih =>
    have ih := ih (by omega)
    have hs := st_k0_t2_succ (F := Ideal) Variants.none c none i arg1 harg1 arg2 harg2 arg3 harg3 arg4 harg4 v4 v5 cexp (harg1.unread X) init ⟨k, hk⟩
    simp only at hs
    rw [hs]
    exact trip2_at c i arg1 harg1 arg2 harg2 arg3 harg3 arg4 harg4 X v4 v5 ⟨k, hk⟩ _ r l m hm _ ih

end Cert.KernelIdeal.Block
-- ==== Proof.Rows.lean ====
module

public import proofs.«01_k».proof.Proof.Loops

@[expose] public section

set_option maxRecDepth 16384

noncomputable section

namespace Cert.KernelIdeal.Block

open Cert.KernelIdeal Cert.KernelIdeal.Gen
open Idealize.ShloMosaic Idealize.ShloMosaic.TcCoe
open Idealize.ShloMosaic.ValueIdx

/-- The chained maximum is the maximum of the first value and of all the values folded in. -/
theorem chain_max (g : ℕ → EReal) (a : EReal) (n : ℕ) :
    chain (fun x k => max x (g k)) a n = max a ((Finset.range n).sup g) := by
  induction n with
  | zero => simp [chain]
  | succ n ih =>
    rw [Finset.range_add_one, Finset.sup_insert, sup_comm (g n), ← sup_assoc]
    exact congrArg (fun z => max z (g n)) ih

/-- The chained minimum is the minimum of the first value and of all the values folded in. -/
theorem chain_min (g : ℕ → EReal) (a : EReal) (n : ℕ) :
    chain (fun x k => min x (g k)) a n = min a ((Finset.range n).inf g) := by
  induction n with
  | zero => simp [chain]
  | succ n ih =>
    rw [Finset.range_add_one, Finset.inf_insert, inf_comm (g n), ← inf_assoc]
    exact congrArg (fun z => min z (g n)) ih

/-- The chained sum is the first value plus the sum of all the values added. -/
theorem chain_add (g : ℕ → EReal) (a : EReal) (n : ℕ) :
    chain (fun x k => x + g k) a n = a + ∑ k ∈ Finset.range n, g k := by
  induction n with
  | zero => simp [chain]
  | succ n ih =>
    rw [Finset.sum_range_succ, ← add_assoc, ← ih]; rfl

/-- Row `r` of the block. -/
def row (X : Vec Ideal S32x50304 .bf16) (r : Fin 32) : Fin 50304 → EReal := fun j => X (ix2 r j)

/-- The lane `l` of chunk `n` is the row at column `128 n + l`. -/
theorem lane_eq (X : Vec Ideal S32x50304 .bf16) (r : Fin 32) (l : Fin 128) (n : ℕ) (hn : n < 393) :
    lane X r l n = row X r ⟨128 * n + l.val, by omega⟩ := by
  unfold lane col row; rw [dif_pos]

/-- The maximum over the lanes of the chained maxima over the 393 chunks is the row's maximum. -/
theorem row_max (X : Vec Ideal S32x50304 .bf16) (r : Fin 32) :
    (Finset.univ : Finset (Fin 128)).sup (fun l => chain (fun x n => max x (lane X r l n)) (lane X r l 0) 393)
      = Finset.univ.sup (row X r) := by
  apply le_antisymm
  · refine Finset.sup_le fun l _ => ?_
    rw [chain_max]
    refine max_le ?_ (Finset.sup_le fun n hn => ?_)
    · rw [lane_eq X r l 0 (by norm_num)]; exact Finset.le_sup (f := row X r) (Finset.mem_univ _)
    · rw [lane_eq X r l n (Finset.mem_range.1 hn)]; exact Finset.le_sup (f := row X r) (Finset.mem_univ _)
  · refine Finset.sup_le fun j _ => ?_
    have hj := j.isLt
    refine le_trans ?_ (Finset.le_sup (f := fun l => chain (fun x n => max x (lane X r l n)) (lane X r l 0) 393)
      (Finset.mem_univ (⟨j.val % 128, Nat.mod_lt _ (by norm_num)⟩ : Fin 128)))
    show _ ≤ chain _ _ 393
    rw [chain_max]
    refine le_trans (le_of_eq ?_) (le_max_of_le_right (Finset.le_sup (f := lane X r ⟨j.val % 128, Nat.mod_lt _ (by norm_num)⟩)
      (Finset.mem_range.2 (show j.val / 128 < 393 by omega))))
    rw [lane_eq X r _ _ (by omega)]
    congr 1; apply Fin.ext; show j.val = 128 * (j.val / 128) + j.val % 128; omega

/-- The minimum over the lanes of the chained minima over the 393 chunks is the row's minimum. -/
theorem row_min (X : Vec Ideal S32x50304 .bf16) (r : Fin 32) :
    (Finset.univ : Finset (Fin 128)).inf (fun l => chain (fun x n => min x (lane X r l n)) (lane X r l 0) 393)
      = Finset.univ.inf (row X r) := by
  apply le_antisymm
  · refine Finset.le_inf fun j _ => ?_
    have hj := j.isLt
    refine le_trans (Finset.inf_le (f := fun l => chain (fun x n => min x (lane X r l n)) (lane X r l 0) 393)
      (Finset.mem_univ (⟨j.val % 128, Nat.mod_lt _ (by norm_num)⟩ : Fin 128))) ?_
    show chain _ _ 393 ≤ _
    rw [chain_min]
    refine le_trans (min_le_of_right_le (Finset.inf_le (f := lane X r ⟨j.val % 128, Nat.mod_lt _ (by norm_num)⟩)
      (Finset.mem_range.2 (show j.val / 128 < 393 by omega)))) (le_of_eq ?_)
    rw [lane_eq X r _ _ (by omega)]
    congr 1; apply Fin.ext; show 128 * (j.val / 128) + j.val % 128 = j.val; omega
  · refine Finset.le_inf fun l _ => ?_
    rw [chain_min]
    refine le_min ?_ (Finset.le_inf fun n hn => ?_)
    · rw [lane_eq X r l 0 (by norm_num)]; exact Finset.inf_le (f := row X r) (Finset.mem_univ _)
    · rw [lane_eq X r l n (Finset.mem_range.1 hn)]; exact Finset.inf_le (f := row X r) (Finset.mem_univ _)

/-- The sum over the lanes of the chained sums over the 393 chunks is the row's sum. -/
theorem row_sum (X : Vec Ideal S32x50304 .bf16) (r : Fin 32) (h : EReal → EReal) :
    ∑ l : Fin 128, chain (fun x n => x + h (lane X r l n)) 0 393 = ∑ j, h (row X r j) := by
  have e : ∀ l : Fin 128, chain (fun x n => x + h (lane X r l n)) 0 393
      = ∑ n : Fin 393, h (row X r (⟨128 * n.val + l.val, by omega⟩ : Fin 50304)) := by
    intro l
    rw [chain_add, zero_add, Finset.sum_range]
    exact Finset.sum_congr rfl fun n _ => by rw [lane_eq X r l n.val n.isLt]
  rw [Finset.sum_congr rfl fun l _ => e l, Finset.sum_comm, ← Fintype.sum_prod_type']
  refine Fintype.sum_equiv ((finProdFinEquiv (m := 393) (n := 128)).trans (finCongr (by norm_num))) _ _ ?_
  rintro ⟨n, l⟩
  show h _ = h _
  congr 2
  apply Fin.ext
  show 128 * n.val + l.val = l.val + 128 * n.val
  omega

end Cert.KernelIdeal.Block
-- ==== Proof.Block.lean ====
module

public import proofs.«01_k».proof.Proof.Rows
public import Idealize.ShloMosaic.Lib.IndicatorCount

@[expose] public section

set_option maxRecDepth 16384

noncomputable section

namespace Cert.KernelIdeal.Block

open Cert.KernelIdeal Cert.KernelIdeal.Gen
open Idealize.ShloMosaic Idealize.ShloMosaic.TcCoe Idealize.SL.Sem
open Idealize.ShloMosaic.ValueIdx

/-! ### What the kernel computes of one row -/

/-- The reciprocal of the temperature, as the kernel divides it out. -/
def invT : EReal := k0_pay19 (F := Ideal)
/-- The row's maximum. -/
def rowMax (f : Fin 50304 → EReal) : EReal := Finset.univ.sup f
/-- The row's minimum. -/
def rowMin (f : Fin 50304 → EReal) : EReal := Finset.univ.inf f
/-- The row's sum of exponentials relative to its maximum. -/
def rowSum (f : Fin 50304 → EReal) : EReal := ∑ j, term (rowMax f) (f j)
/-- The logarithm of the row's sum: the first result. -/
def lseRel (f : Fin 50304 → EReal) : EReal := Ideal.log (rowSum f)
/-- The logarithm of the sum of exponentials of the row. -/
def lse (f : Fin 50304 → EReal) : EReal := rowMax f * invT + lseRel f
/-- The largest absolute value of the row's log-probabilities. -/
def amax (f : Fin 50304 → EReal) : EReal := lse f - rowMin f * invT
/-- The float whose exponent field is the word `e + 127`. -/
def pow2 (e : BitVec 32) : EReal := Ideal.ofBits .f32 (IntOp.shli .vector (IntOp.addi e 127#32) 23#32)
/-- The `k`-th threshold the kernel compares with. -/
def thr (k : ℕ) : EReal := pow2 (IntOp.subi (BitVec.ofNat 32 k) 127#32)
/-- The exponent the kernel finds: how many of the 256 thresholds are reached, less 127. -/
def expo (v : EReal) : BitVec 32 :=
  IntOp.subi (BitVec.ofNat 32 (Finset.univ.filter fun k : Fin 256 => Ideal.cmp .oge v (thr k.val) = 1#1).card) 127#32
/-- The value whose exponent is taken: the largest absolute value times the float `1/448`. -/
def scaled (a : EReal) : EReal := a * Ideal.ofBits .f32 0x3B124925#32
/-- The row's scale: the second result. -/
def scaleOf (a : EReal) : EReal := pow2 (expo (scaled a))
/-- The reciprocal of the row's scale. -/
def invOf (a : EReal) : EReal := pow2 (IntOp.subi 0#32 (expo (scaled a)))
/-- The code of one element `x`, clipped to `±448`, of a row whose log-sum is `L` and largest absolute value `a`. -/
def codeOf (a L x : EReal) : EReal :=
  min (Ideal.ofBits .f32 0x43E00000#32) (max (Ideal.ofBits .f32 0xC3E00000#32) (x * (invOf a * invT) - invOf a * L))

/-! ### Layout operations at an index -/

/-- A column of 32 values, viewed as a 32 by 1 array. -/
theorem cast_col {α : Type} (v : S32.Idx → α) (h : S32.ShapeCasts S32x1) (r : Fin 32) (z : Fin 1) : shapeCast S32x1 v h (ix2 r z) = v (ix1 r) := by
  apply shapeCast_apply
  rw [Shape.rowMajor_val_one, Shape.rowMajor_val_two]
  have := z.isLt
  show r.val = r.val * 1 + z.val
  omega

/-- A 32 by 1 array spread over the 128 lanes. -/
theorem spread {α : Type} (v : S32x1.Idx → α) (h : S32x1.Broadcasts S32x128) (r : Fin 32) (l : Fin 128) :
    broadcastTo S32x128 v h (ix2 r l) = v (ix2 r 0) := by
  apply broadcastTo_apply
  intro a
  match a with
  | ⟨0, _⟩ => rfl
  | ⟨1, _⟩ => rfl

/-- A 32 by 1 array spread over the 256 thresholds. -/
theorem spread256 {α : Type} (v : S32x1.Idx → α) (h : S32x1.Broadcasts S32x256) (r : Fin 32) (l : Fin 256) :
    broadcastTo S32x256 v h (ix2 r l) = v (ix2 r 0) := by
  apply broadcastTo_apply
  intro a
  match a with
  | ⟨0, _⟩ => rfl
  | ⟨1, _⟩ => rfl

/-- The index a reduction over the lanes reads. -/
theorem lift128 (h : S32x128.Reduces [1] S32) (r : Fin 32) (k : Fin 128) : h.lift (ix1 r) k = ix2 r k := by
  funext a
  match a with
  | ⟨0, _⟩ => rfl
  | ⟨1, _⟩ => rfl

/-- The index a reduction over the thresholds reads. -/
theorem lift256 (h : S32x256.Reduces [1] S32) (r : Fin 32) (k : Fin 256) : h.lift (ix1 r) k = ix2 r k := by
  funext a
  match a with
  | ⟨0, _⟩ => rfl
  | ⟨1, _⟩ => rfl

/-- A running maximum from minus infinity is the supremum. -/
theorem fold_max_eq_sup {ι : Type} (s : Finset ι) (g : ι → EReal) : s.fold max (Ideal.ofBits .f32 0xFF800000#32) g = s.sup g := by
  have : Ideal.ofBits .f32 0xFF800000#32 = (⊥ : EReal) := by simp [Ideal.ofBits, Ideal.ieee]
  rw [this]; rfl

/-- A running minimum from plus infinity is the infimum. -/
theorem fold_min_eq_inf {ι : Type} (s : Finset ι) (g : ι → EReal) : s.fold min (Ideal.ofBits .f32 0x7F800000#32) g = s.inf g := by
  have : Ideal.ofBits .f32 0x7F800000#32 = (⊤ : EReal) := by simp [Ideal.ofBits, Ideal.ieee]
  rw [this]; rfl

/-! ### The kernel's values at an index -/

/-- The maximum over the lanes of the running maxima and the last chunk. -/
theorem pay25_at (v4 : FVec Ideal S32x128 .bf16) (v5 : Vec Ideal S32x128 .bf16) (r : Fin 32) (z : Fin 1) :
    k0_pay25 (F := Ideal) v4 v5 (ix2 r z) = Finset.univ.sup fun l : Fin 128 => max (v4 (ix2 r l)) (v5 (ix2 r l)) := by
  unfold k0_pay25 k0_pay24
  simp only [shapeCast_self]
  rw [cast_col]
  refine (Ideal.multiReduction_maximumf_single (a := 1) _ _ _ _ _ _).trans ?_
  refine (fold_max_eq_sup _ _).trans ?_
  refine Finset.sup_congr rfl fun l _ => ?_
  exact congrArg (maximumf v4 v5) (lift128 reduces_S32x128_S32 r l)

/-- The minimum over the lanes, likewise, where the spread of the row is taken. -/
theorem pay31_at (v41 v42 : FVec Ideal S32x128 .bf16) (v5 : Vec Ideal S32x128 .bf16) (v19 : FVec Ideal S32x128 .f32) (v20 : Vec Ideal S32x128 .bf16)
    (r : Fin 32) (z : Fin 1) :
    k0_pay31 (F := Ideal) v41 v42 v5 v19 v20 (ix2 r z)
      = k0_pay30 (F := Ideal) v41 v5 v19 v20 (ix2 r z) - (Finset.univ.inf fun l : Fin 128 => min (v42 (ix2 r l)) (v5 (ix2 r l))) * invT := by
  unfold k0_pay31 k0_pay24
  simp only [shapeCast_self, subf_apply, mulf_apply, broadcast_apply]
  rw [cast_col]
  refine congrArg (fun y : EReal => k0_pay30 (F := Ideal) v41 v5 v19 v20 (ix2 r z) - y * invT) ?_
  refine (multiReduction_minimumf_eq_fold (F := Ideal) _ _ _ _ _ _).trans ?_
  refine (Shape.Reduces.fold_filter_drop_single (a := 1) _ _ _ _ _).trans ?_
  refine (fold_min_eq_inf _ _).trans ?_
  refine Finset.inf_congr rfl fun l _ => ?_
  exact congrArg (minimumf v42 v5) (lift128 reduces_S32x128_S32 r l)

/-- The running maximum spread over the lanes. -/
theorem pay26_at (v4 : FVec Ideal S32x128 .bf16) (v5 : Vec Ideal S32x128 .bf16) (r : Fin 32) (l : Fin 128) :
    k0_pay26 (F := Ideal) v4 v5 (ix2 r l) = k0_pay25 (F := Ideal) v4 v5 (ix2 r 0) := by
  unfold k0_pay26
  simp only [shapeCast_self]
  rw [spread]

/-- The logarithm of the sum over the lanes. -/
theorem pay29_at (v4 : FVec Ideal S32x128 .bf16) (v5 : Vec Ideal S32x128 .bf16) (v19 : FVec Ideal S32x128 .f32) (v20 : Vec Ideal S32x128 .bf16)
    (r : Fin 32) (z : Fin 1) :
    k0_pay29 (F := Ideal) v4 v5 v19 v20 (ix2 r z)
      = Ideal.log (∑ l : Fin 128, (v19 (ix2 r l) + term (k0_pay25 (F := Ideal) v4 v5 (ix2 r 0)) (v20 (ix2 r l)))) := by
  unfold k0_pay29
  simp only [shapeCast_self]
  show Ideal.log (shapeCast S32x1 _ _ (ix2 r z)) = _
  rw [cast_col]
  congr 1
  refine (Ideal.multiReduction_add_single (a := 1) _ _ _ _ _ _).trans ?_
  refine Finset.sum_congr rfl fun l _ => ?_
  refine (congrArg _ (lift128 reduces_S32x128_S32 r l)).trans ?_
  exact congrArg (fun y : EReal => v19 (ix2 r l) + term y (v20 (ix2 r l))) (pay26_at v4 v5 r l)

/-- The count of the thresholds reached, less 127. -/
theorem pay32_at (v36 : FVec Ideal S32x1 .f32) (r : Fin 32) (z : Fin 1) :
    k0_pay32 (F := Ideal) v36 (ix2 r z) = expo (scaled (v36 (ix2 r 0))) := by
  unfold k0_pay32
  simp only [shapeCast_self]
  show IntOp.subi (shapeCast S32x1 _ _ (ix2 r z)) 127#32 = _
  rw [cast_col]
  unfold expo
  congr 1
  refine (multiReductionI_eq_fold _ _ _ _ _ _).trans ?_
  refine (Shape.Reduces.fold_filter_drop_single (a := 1) _ _ _ _ _).trans ?_
  refine Eq.trans ?_ (IndicatorCount.fold_addi_setWidth_eq_card (fun k : Fin 256 => Ideal.cmp .oge (scaled (v36 (ix2 r 0))) (thr k.val)) Finset.univ)
  refine Finset.fold_congr fun k _ => ?_
  refine (congrArg _ (lift256 reduces_S32x256_S32 r k)).trans ?_
  refine congrArg (BitVec.setWidth 32) ?_
  refine congrArg₂ (Ideal.cmp .oge) (spread256 _ _ r k) ?_
  refine congrArg (fun w => Ideal.ofBits .f32 (IntOp.shli .vector (IntOp.addi (IntOp.subi w 127#32) 127#32) 23#32)) ?_
  exact iota_single_apply _ _ _ _ _ _

/-- The reciprocal of the scale. -/
theorem pay33_at (v36 : FVec Ideal S32x1 .f32) (r : Fin 32) : k0_pay33 (F := Ideal) v36 (ix2 r 0) = invOf (v36 (ix2 r 0)) := by
  show pow2 (IntOp.subi 0#32 (k0_pay32 (F := Ideal) v36 (ix2 r 0))) = _
  rw [pay32_at]; rfl

/-- The scale. -/
theorem pay34_at (v36 : FVec Ideal S32x1 .f32) (r : Fin 32) : k0_pay34 (F := Ideal) v36 (ix2 r 0) = scaleOf (v36 (ix2 r 0)) := by
  show pow2 (k0_pay32 (F := Ideal) v36 (ix2 r 0)) = _
  rw [pay32_at]; rfl

/-- The factor of the codes, spread over the lanes. -/
theorem pay35_at (v0 : EReal) (v36 : FVec Ideal S32x1 .f32) (r : Fin 32) (l : Fin 128) :
    k0_pay35 (F := Ideal) v0 v36 (ix2 r l) = invOf (v36 (ix2 r 0)) * v0 := by
  unfold k0_pay35
  simp only [shapeCast_self]
  rw [spread]
  show k0_pay33 (F := Ideal) v36 (ix2 r 0) * v0 = _
  rw [pay33_at]

/-- The offset of the codes, spread over the lanes. -/
theorem pay36_at (v33 v36 : FVec Ideal S32x1 .f32) (r : Fin 32) (l : Fin 128) :
    k0_pay36 (F := Ideal) v33 v36 (ix2 r l) = invOf (v36 (ix2 r 0)) * v33 (ix2 r 0) := by
  unfold k0_pay36
  simp only [shapeCast_self]
  rw [spread]
  show k0_pay33 (F := Ideal) v36 (ix2 r 0) * v33 (ix2 r 0) = _
  rw [pay33_at]

end Cert.KernelIdeal.Block
-- ==== Proof.Out.lean ====
module

public import proofs.«01_k».proof.Proof.Block

@[expose] public section

set_option maxRecDepth 16384

noncomputable section

namespace Cert.KernelIdeal.Block

open Cert.KernelIdeal Cert.KernelIdeal.Gen
open Idealize.ShloMosaic Idealize.ShloMosaic.TcCoe Idealize.SL.Sem
open Idealize.ShloMosaic.ValueIdx

variable (c : Dev nD) (i : grid0.Coords) (arg1 : Memref sig .tc .vmem S32x50304 .bf16) (harg1 : arg1.IsWhole)
  (arg2 : Memref sig .tc .vmem S32x1 .f32) (harg2 : arg2.IsWhole) (arg3 : Memref sig .tc .vmem S32x50304 .fp8e4m3)
  (harg3 : arg3.IsWhole) (arg4 : Memref sig .tc .vmem S32x1 .f32) (harg4 : arg4.IsWhole)
  (X : Vec Ideal S32x50304 .bf16)

/-- The block's first 128 columns. -/
abbrev head : Vec Ideal S32x128 .bf16 :=
  View.readAt (Elt Ideal) arg1.view (Rect.unit (s := S32x50304) ![0, 0] S32x128.size inb_S32x50304_S32x128_0_0).toLoadRect (harg1.unread X)

/-- The block's last 128 columns. -/
abbrev tail : Vec Ideal S32x128 .bf16 :=
  View.readAt (Elt Ideal) arg1.view (Rect.unit (s := S32x50304) ![0, 50176] S32x128.size inb_S32x50304_S32x128_0_50176).toLoadRect (harg1.unread X)

/-- The running maximum and minimum the first loop ends with. -/
abbrev ext : FVec Ideal S32x128 .bf16 × FVec Ideal S32x128 .bf16 :=
  st_k0_t1 (F := Ideal) Variants.none c none i arg1 harg1 arg2 harg2 arg3 harg3 arg4 harg4 (harg1.unread X)
    (k0_pay20 (head arg1 harg1 X), k0_pay20 (head arg1 harg1 X)) k0_t1_loop.trips

/-- The running sum the second loop ends with. -/
abbrev acc : FVec Ideal S32x128 .f32 :=
  st_k0_t2 (F := Ideal) Variants.none c none i arg1 harg1 arg2 harg2 arg3 harg3 arg4 harg4
    (ext c i arg1 harg1 arg2 harg2 arg3 harg3 arg4 harg4 X).1 (tail arg1 harg1 X) cexp (harg1.unread X) k0_pay27 k0_t2_loop.trips

/-- The block's column of log-sums relative to the maximum. -/
abbrev vRel : FVec Ideal S32x1 .f32 :=
  k0_pay29 (ext c i arg1 harg1 arg2 harg2 arg3 harg3 arg4 harg4 X).1 (tail arg1 harg1 X) (acc c i arg1 harg1 arg2 harg2 arg3 harg3 arg4 harg4 X) (tail arg1 harg1 X)

/-- The block's column of log-sums. -/
abbrev vLse : FVec Ideal S32x1 .f32 :=
  k0_pay30 (ext c i arg1 harg1 arg2 harg2 arg3 harg3 arg4 harg4 X).1 (tail arg1 harg1 X) (acc c i arg1 harg1 arg2 harg2 arg3 harg3 arg4 harg4 X) (tail arg1 harg1 X)

/-- The block's column of largest absolute values. -/
abbrev vAmax : FVec Ideal S32x1 .f32 :=
  k0_pay31 (ext c i arg1 harg1 arg2 harg2 arg3 harg3 arg4 harg4 X).1 (ext c i arg1 harg1 arg2 harg2 arg3 harg3 arg4 harg4 X).2 (tail arg1 harg1 X) (acc c i arg1 harg1 arg2 harg2 arg3 harg3 arg4 harg4 X) (tail arg1 harg1 X)

/-- The one store of the log-sums. -/
theorem pieces1 : (kernelRun0_A (F := Ideal) c i arg1 harg1 arg2 harg2 arg3 harg3 arg4 harg4 X).1
    = [⟨Rect.unit (s := S32x1) ![0, 0] S32x1.size inb_S32x1_S32x1_0_0, vRel c i arg1 harg1 arg2 harg2 arg3 harg3 arg4 harg4 X⟩] := by
  unfold kernelRun0_A
  rfl

/-- The one store of the scales. -/
theorem pieces3 : (kernelRun0_A (F := Ideal) c i arg1 harg1 arg2 harg2 arg3 harg3 arg4 harg4 X).2.2.1
    = [⟨Rect.unit (s := S32x1) ![0, 0] S32x1.size inb_S32x1_S32x1_0_0, k0_pay34 (vAmax c i arg1 harg1 arg2 harg2 arg3 harg3 arg4 harg4 X)⟩] := by
  unfold kernelRun0_A
  rfl

/-- The stores of the codes: the third loop's, then the last 128 columns'. -/
theorem pieces2 : (kernelRun0_A (F := Ideal) c i arg1 harg1 arg2 harg2 arg3 harg3 arg4 harg4 X).2.1
    = ⟨Rect.unit (s := S32x50304) ![0, 50176] S32x128.size inb_S32x50304_S32x128_0_50176,
        k0_pay1 (k0_pay35 k0_pay19 (vAmax c i arg1 harg1 arg2 harg2 arg3 harg3 arg4 harg4 X))
          (k0_pay36 (vLse c i arg1 harg1 arg2 harg2 arg3 harg3 arg4 harg4 X) (vAmax c i arg1 harg1 arg2 harg2 arg3 harg3 arg4 harg4 X)) (tail arg1 harg1 X)⟩
      :: pb_k0_t3 (F := Ideal) Variants.none c none i arg1 harg1 arg2 harg2 arg3 harg3 arg4 harg4 k0_pay19 (vRel c i arg1 harg1 arg2 harg2 arg3 harg3 arg4 harg4 X)
          (vLse c i arg1 harg1 arg2 harg2 arg3 harg3 arg4 harg4 X) (vAmax c i arg1 harg1 arg2 harg2 arg3 harg3 arg4 harg4 X) (harg1.unread X) k0_t3_loop.trips := by
  unfold kernelRun0_A
  rfl

/-- The first 128 columns are chunk 0. -/
theorem head_at (r : Fin 32) (l : Fin 128) : head arg1 harg1 X (ix2 r l) = lane X r l 0 :=
  load_at arg1 harg1 X _ 0 rfl _ r l

/-- The last 128 columns are chunk 392. -/
theorem tail_at (r : Fin 32) (l : Fin 128) : tail arg1 harg1 X (ix2 r l) = lane X r l 392 :=
  load_at arg1 harg1 X _ 50176 rfl _ r l

/-- The first loop ends, lane by lane, with the extremes of chunks 0 to 391. -/
theorem ext_at (r : Fin 32) (l : Fin 128) :
    (ext c i arg1 harg1 arg2 harg2 arg3 harg3 arg4 harg4 X).1 (ix2 r l) = chain (fun x n => max x (lane X r l n)) (lane X r l 0) 392
    ∧ (ext c i arg1 harg1 arg2 harg2 arg3 harg3 arg4 harg4 X).2 (ix2 r l) = chain (fun x n => min x (lane X r l n)) (lane X r l 0) 392 := by
  have h := st1_at c i arg1 harg1 arg2 harg2 arg3 harg3 arg4 harg4 X (k0_pay20 (head arg1 harg1 X), k0_pay20 (head arg1 harg1 X)) r l k0_t1_loop.trips le_rfl
  have ht : 8 * k0_t1_loop.trips = 392 := by decide
  have h0 : (k0_pay20 (F := Ideal) (head arg1 harg1 X)) (ix2 r l) = lane X r l 0 := by
    unfold k0_pay20
    simp only [shapeCast_self]
    exact head_at arg1 harg1 X r l
  rw [ht] at h
  simp only [h0] at h
  exact h

/-- The maximum the kernel uses is the row's. -/
theorem pay25_run (r : Fin 32) (z : Fin 1) :
    k0_pay25 (F := Ideal) (ext c i arg1 harg1 arg2 harg2 arg3 harg3 arg4 harg4 X).1 (tail arg1 harg1 X) (ix2 r z) = rowMax (row X r) := by
  rw [pay25_at]
  unfold rowMax
  rw [← row_max]
  refine Finset.sup_congr rfl fun l _ => ?_
  rw [(ext_at c i arg1 harg1 arg2 harg2 arg3 harg3 arg4 harg4 X r l).1, tail_at]
  rfl

/-- The second loop ends, lane by lane, with the sum over chunks 0 to 391. -/
theorem acc_at (r : Fin 32) (l : Fin 128) :
    acc c i arg1 harg1 arg2 harg2 arg3 harg3 arg4 harg4 X (ix2 r l)
      = chain (fun x n => x + term (rowMax (row X r)) (lane X r l n)) 0 392 := by
  have h := st2_at c i arg1 harg1 arg2 harg2 arg3 harg3 arg4 harg4 X (ext c i arg1 harg1 arg2 harg2 arg3 harg3 arg4 harg4 X).1 (tail arg1 harg1 X)
    k0_pay27 r l _ ((pay26_at _ _ r l).trans (pay25_run c i arg1 harg1 arg2 harg2 arg3 harg3 arg4 harg4 X r 0)) k0_t2_loop.trips le_rfl
  have ht : 8 * k0_t2_loop.trips = 392 := by decide
  have h0 : (k0_pay27 (F := Ideal)) (ix2 r l) = 0 := by
    show Ideal.ofBits .f32 0#32 = 0
    simp [Ideal.ofBits, Ideal.ieee]
  rw [ht, h0] at h
  exact h

/-- The stored log-sum relative to the maximum is the row's. -/
theorem vRel_at (r : Fin 32) (z : Fin 1) : vRel c i arg1 harg1 arg2 harg2 arg3 harg3 arg4 harg4 X (ix2 r z) = lseRel (row X r) := by
  refine (pay29_at _ _ _ _ r z).trans ?_
  unfold lseRel rowSum
  refine congrArg Ideal.log (Eq.trans ?_ (row_sum X r (term (rowMax (row X r)))))
  refine Finset.sum_congr rfl fun l _ => ?_
  rw [acc_at, pay25_run, tail_at]
  rfl

/-- The log-sum is the row's. -/
theorem vLse_at (r : Fin 32) (z : Fin 1) : vLse c i arg1 harg1 arg2 harg2 arg3 harg3 arg4 harg4 X (ix2 r z) = lse (row X r) := by
  show k0_pay25 (F := Ideal) _ _ (ix2 r z) * invT + vRel c i arg1 harg1 arg2 harg2 arg3 harg3 arg4 harg4 X (ix2 r z) = _
  rw [vRel_at, pay25_run]; rfl

/-- The largest absolute value is the row's. -/
theorem vAmax_at (r : Fin 32) (z : Fin 1) : vAmax c i arg1 harg1 arg2 harg2 arg3 harg3 arg4 harg4 X (ix2 r z) = amax (row X r) := by
  refine (pay31_at _ _ _ _ _ r z).trans ?_
  refine congrArg₂ (fun a b : EReal => a - b * invT) (vLse_at c i arg1 harg1 arg2 harg2 arg3 harg3 arg4 harg4 X r z) ?_
  unfold rowMin
  rw [← row_min]
  refine Finset.inf_congr rfl fun l _ => ?_
  rw [(ext_at c i arg1 harg1 arg2 harg2 arg3 harg3 arg4 harg4 X r l).2, tail_at]
  rfl

/-- What one point of the grid leaves of the first result. -/
theorem out1_at (r : Fin 32) (z : Fin 1) :
    out0_A_1 (F := Ideal) c i arg1 harg1 arg2 harg2 arg3 harg3 arg4 harg4 X (ix2 r z) = lseRel (row X r) := by
  have hz : (![0, 0] : Fin 2 → Nat) = fun _ => 0 := funext fun a => by fin_cases a <;> rfl
  unfold out0_A_1
  rw [View.read_writes_eq_canon _ _ _ (cover0_A_1 (F := Ideal) c i arg1 harg1 arg2 harg2 arg3 harg3 arg4 harg4 X), pieces1, View.canon_unit_zero hz]
  exact vRel_at c i arg1 harg1 arg2 harg2 arg3 harg3 arg4 harg4 X r z

/-- What one point of the grid leaves of the third result. -/
theorem out3_at (r : Fin 32) (z : Fin 1) :
    out0_A_3 (F := Ideal) c i arg1 harg1 arg2 harg2 arg3 harg3 arg4 harg4 X (ix2 r z) = scaleOf (amax (row X r)) := by
  have hz : (![0, 0] : Fin 2 → Nat) = fun _ => 0 := funext fun a => by fin_cases a <;> rfl
  unfold out0_A_3
  rw [View.read_writes_eq_canon _ _ _ (cover0_A_3 (F := Ideal) c i arg1 harg1 arg2 harg2 arg3 harg3 arg4 harg4 X), pieces3, View.canon_unit_zero hz]
  obtain rfl : z = 0 := Subsingleton.elim _ _
  rw [pay34_at, vAmax_at]

end Cert.KernelIdeal.Block
-- ==== Proof.Codes.lean ====
module

public import proofs.«01_k».proof.Proof.Out

@[expose] public section

set_option maxRecDepth 16384

noncomputable section

namespace Cert.KernelIdeal.Block

open Cert.KernelIdeal Cert.KernelIdeal.Gen
open Idealize.ShloMosaic Idealize.ShloMosaic.TcCoe Idealize.SL.Sem
open Idealize.ShloMosaic.ValueIdx

variable (c : Dev nD) (i : grid0.Coords) (arg1 : Memref sig .tc .vmem S32x50304 .bf16) (harg1 : arg1.IsWhole)
  (arg2 : Memref sig .tc .vmem S32x1 .f32) (harg2 : arg2.IsWhole) (arg3 : Memref sig .tc .vmem S32x50304 .fp8e4m3)
  (harg3 : arg3.IsWhole) (arg4 : Memref sig .tc .vmem S32x1 .f32) (harg4 : arg4.IsWhole)
  (X : Vec Ideal S32x50304 .bf16)

/-- Codes of 128 columns: each element times a factor less an offset, clipped to `±448`. -/
def codes (kb db : FVec Ideal S32x128 .f32) (v : Vec Ideal S32x128 .bf16) : FVec Ideal S32x128 .fp8e4m3 := fun y =>
  min (Ideal.ofBits .f32 0x43E00000#32) (max (Ideal.ofBits .f32 0xC3E00000#32) (v y * kb y - db y))

/-! The stores' payloads are all codes of what was loaded. -/

/-- One piece of codes that the loop stores, by the general formula for a piece. -/
theorem pay1_eq (kb db : FVec Ideal S32x128 .f32) (v : Vec Ideal S32x128 .bf16) : k0_pay1 (F := Ideal) kb db v = codes kb db v := by
  unfold k0_pay1
  simp only [shapeCast_self]
  rfl

/-- One piece of codes that the loop stores, by the general formula for a piece. -/
theorem pay13_eq (kb db : FVec Ideal S32x128 .f32) (v : Vec Ideal S32x128 .bf16) : k0_pay13 (F := Ideal) kb db v = codes kb db v := by
  unfold k0_pay13
  simp only [shapeCast_self]
  rfl

/-- One piece of codes that the loop stores, by the general formula for a piece. -/
theorem pay14_eq (kb db : FVec Ideal S32x128 .f32) (v : Vec Ideal S32x128 .bf16) : k0_pay14 (F := Ideal) kb db v = codes kb db v := by
  unfold k0_pay14
  simp only [shapeCast_self]
  rfl

/-- One piece of codes that the loop stores, by the general formula for a piece. -/
theorem pay15_eq (kb db : FVec Ideal S32x128 .f32) (v : Vec Ideal S32x128 .bf16) : k0_pay15 (F := Ideal) kb db v = codes kb db v := by
  unfold k0_pay15
  simp only [shapeCast_self]
  rfl

/-- One piece of codes that the loop stores, by the general formula for a piece. -/
theorem pay16_eq (kb db : FVec Ideal S32x128 .f32) (v : Vec Ideal S32x128 .bf16) : k0_pay16 (F := Ideal) kb db v = codes kb db v := by
  unfold k0_pay16
  simp only [shapeCast_self]
  rfl

/-- One piece of codes that the loop stores, by the general formula for a piece. -/
theorem pay17_eq (kb db : FVec Ideal S32x128 .f32) (v : Vec Ideal S32x128 .bf16) : k0_pay17 (F := Ideal) kb db v = codes kb db v := by
  unfold k0_pay17
  simp only [shapeCast_self]
  rfl

/-- One piece of codes that the loop stores, by the general formula for a piece. -/
theorem pay18_eq (kb db : FVec Ideal S32x128 .f32) (v : Vec Ideal S32x128 .bf16) : k0_pay18 (F := Ideal) kb db v = codes kb db v := by
  unfold k0_pay18
  simp only [shapeCast_self]
  rfl

/-- A piece of codes stored after the loop, by the general formula for a piece. -/
theorem pay37_eq (v0 : EReal) (v33 v36 : FVec Ideal S32x1 .f32) (v : Vec Ideal S32x128 .bf16) :
    k0_pay37 (F := Ideal) v0 v33 v36 v = codes (k0_pay35 v0 v36) (k0_pay36 v33 v36) v := by
  unfold k0_pay37
  simp only [shapeCast_self]
  rfl

/-- A piece of codes stored after the loop, by the general formula for a piece. -/
theorem pay38_eq (v0 : EReal) (v33 v36 : FVec Ideal S32x1 .f32) (v : Vec Ideal S32x128 .bf16) :
    k0_pay38 (F := Ideal) v0 v33 v36 v = codes (k0_pay35 v0 v36) (k0_pay36 v33 v36) v := by
  unfold k0_pay38
  simp only [shapeCast_self]
  rfl

/-- The codes of the whole block. -/
def blockCodes (X : Vec Ideal S32x50304 .bf16) : S32x50304.Idx → EReal := fun y =>
  codeOf (amax (row X (y 0))) (lse (row X (y 0))) (X y)

/-- The rectangle of 128 columns that the third loop's `j`-th access of trip `k` names. -/
abbrev box (k : Fin k0_t3_loop.trips) (j : Fin 8) : Rect S32x50304 :=
  Rect.unit (s := S32x50304) (k0_off3 k (BitVec.ofNat 32 (128 * j.val))) S32x128.size (k0_off3_inb k j)

/-- The `j`-th of the eight loads a trip of the third loop makes. -/
abbrev ld3 (k : Fin k0_t3_loop.trips) (j : Fin 8) : Vec Ideal S32x128 .bf16 :=
  View.readAt (Elt Ideal) arg1.view (box k j).toLoadRect (harg1.unread X)

/-- A store of the codes of 128 columns is the block's codes at those columns. -/
theorem codes_piece (off : Fin 2 → ℕ) (o : ℕ) (hoff : off = ![0, o]) (inb : ∀ a, off a + S32x128.size a ≤ S32x50304.size a)
    (v33 v36 : FVec Ideal S32x1 .f32) (h33 : ∀ r, v33 (ix2 r 0) = lse (row X r)) (h36 : ∀ r, v36 (ix2 r 0) = amax (row X r))
    (x : S32x128.Idx) :
    codes (k0_pay35 k0_pay19 v36) (k0_pay36 v33 v36)
        (View.readAt (Elt Ideal) arg1.view (Rect.unit (s := S32x50304) off S32x128.size inb).toLoadRect (harg1.unread X)) x
      = blockCodes X ((Rect.unit (s := S32x50304) off S32x128.size inb).emb x) := by
  obtain ⟨r, l, rfl⟩ : ∃ r l, x = ix2 r l := ⟨x 0, x 1, eq_ix2 x⟩
  have hl := load_at arg1 harg1 X off o hoff inb r l
  have h1 : o + 128 ≤ 50304 := by subst hoff; exact inb 1
  have he : (Rect.unit (s := S32x50304) off S32x128.size inb).emb (ix2 r l) = ix2 r (⟨o + l.val, by omega⟩ : Fin 50304) := by
    subst hoff
    funext a
    match a with
    | ⟨0, _⟩ => apply Fin.ext; show 0 + _ = _; simp
    | ⟨1, _⟩ => apply Fin.ext; show o + _ = _; simp
  rw [he]
  unfold codes
  rw [hl, pay35_at, pay36_at, h33, h36]
  unfold col
  rw [dif_pos (by omega)]
  rfl

/-- What one trip of the third loop stores: the codes of the eight loaded chunks. -/
theorem trip3_eq (v0 : EReal) (v30 v33 v36 : FVec Ideal S32x1 .f32) (k : Fin k0_t3_loop.trips) :
    tripL_k0_t3 (F := Ideal) Variants.none c none i arg1 harg1 arg2 harg2 arg3 harg3 arg4 harg4 v0 v30 v33 v36 (harg1.unread X) k
      = [⟨box k 7, k0_pay38 v0 v33 v36 (ld3 arg1 harg1 X k 7)⟩, ⟨box k 6, k0_pay37 v0 v33 v36 (ld3 arg1 harg1 X k 6)⟩,
         ⟨box k 5, k0_pay18 (k0_pay35 v0 v36) (k0_pay36 v33 v36) (ld3 arg1 harg1 X k 5)⟩, ⟨box k 4, k0_pay17 (k0_pay35 v0 v36) (k0_pay36 v33 v36) (ld3 arg1 harg1 X k 4)⟩,
         ⟨box k 3, k0_pay16 (k0_pay35 v0 v36) (k0_pay36 v33 v36) (ld3 arg1 harg1 X k 3)⟩, ⟨box k 2, k0_pay15 (k0_pay35 v0 v36) (k0_pay36 v33 v36) (ld3 arg1 harg1 X k 2)⟩,
         ⟨box k 1, k0_pay14 (k0_pay35 v0 v36) (k0_pay36 v33 v36) (ld3 arg1 harg1 X k 1)⟩, ⟨box k 0, k0_pay13 (k0_pay35 v0 v36) (k0_pay36 v33 v36) (ld3 arg1 harg1 X k 0)⟩] := by
  unfold tripL_k0_t3 trip_k0_t3
  rfl

/-- Every store of one trip of the third loop writes the block's codes. -/
theorem trip3_codes (v30 v33 v36 : FVec Ideal S32x1 .f32) (h33 : ∀ r, v33 (ix2 r 0) = lse (row X r)) (h36 : ∀ r, v36 (ix2 r 0) = amax (row X r))
    (k : Fin k0_t3_loop.trips) :
    ∀ p ∈ tripL_k0_t3 (F := Ideal) Variants.none c none i arg1 harg1 arg2 harg2 arg3 harg3 arg4 harg4 k0_pay19 v30 v33 v36 (harg1.unread X) k,
      ∀ x : p.1.shape.Idx, p.2 x = blockCodes X (p.1.emb x) := by
  have hp : ∀ j : Fin 8, ∀ x : S32x128.Idx, codes (k0_pay35 k0_pay19 v36) (k0_pay36 v33 v36) (ld3 arg1 harg1 X k j) x = blockCodes X ((box k j).emb x) :=
    fun j x => codes_piece arg1 harg1 X _ _ (k0_off3_eq k j) _ v33 v36 h33 h36 x
  rw [trip3_eq, pay38_eq, pay37_eq, pay18_eq, pay17_eq, pay16_eq, pay15_eq, pay14_eq, pay13_eq]
  simp only [List.forall_mem_cons, List.not_mem_nil, false_imp_iff, implies_true, and_true]
  exact ⟨hp 7, hp 6, hp 5, hp 4, hp 3, hp 2, hp 1, hp 0⟩

/-- Every store of the first `k` trips of the third loop writes the block's codes. -/
theorem pb3_codes (v30 v33 v36 : FVec Ideal S32x1 .f32) (h33 : ∀ r, v33 (ix2 r 0) = lse (row X r)) (h36 : ∀ r, v36 (ix2 r 0) = amax (row X r))
    (k : ℕ) (hk : k ≤ k0_t3_loop.trips) :
    ∀ p ∈ pb_k0_t3 (F := Ideal) Variants.none c none i arg1 harg1 arg2 harg2 arg3 harg3 arg4 harg4 k0_pay19 v30 v33 v36 (harg1.unread X) k,
      ∀ x : p.1.shape.Idx, p.2 x = blockCodes X (p.1.emb x) := by
  induction k with
  | zero => intro p hp; exact absurd hp (List.not_mem_nil)
  | succ k ih =>
    have hs := pb_k0_t3_succ (F := Ideal) Variants.none c none i arg1 harg1 arg2 harg2 arg3 harg3 arg4 harg4 k0_pay19 v30 v33 v36 (harg1.unread X) ⟨k, hk⟩
    simp only at hs
    rw [hs]
    intro p hp
    rcases List.mem_append.1 hp with h | h
    · exact trip3_codes c i arg1 harg1 arg2 harg2 arg3 harg3 arg4 harg4 X v30 v33 v36 h33 h36 ⟨k, hk⟩ p h
    · exact ih (by omega) p h

/-- What one point of the grid leaves of the second result. -/
theorem out2_at (y : S32x50304.Idx) :
    out0_A_2 (F := Ideal) c i arg1 harg1 arg2 harg2 arg3 harg3 arg4 harg4 X y = blockCodes X y := by
  unfold out0_A_2
  rw [View.read_writes_eq_canon _ _ _ (cover0_A_2 (F := Ideal) c i arg1 harg1 arg2 harg2 arg3 harg3 arg4 harg4 X)]
  refine View.canon_apply_of_pieces (blockCodes X) _ ?_ y (cover0_A_2 (F := Ideal) c i arg1 harg1 arg2 harg2 arg3 harg3 arg4 harg4 X y)
  have h33 := fun r => vLse_at c i arg1 harg1 arg2 harg2 arg3 harg3 arg4 harg4 X r 0
  have h36 := fun r => vAmax_at c i arg1 harg1 arg2 harg2 arg3 harg3 arg4 harg4 X r 0
  rw [pieces2, pay1_eq]
  intro p hp
  rcases List.mem_cons.1 hp with rfl | h
  · exact codes_piece arg1 harg1 X _ 50176 rfl _ _ _ h33 h36
  · exact pb3_codes c i arg1 harg1 arg2 harg2 arg3 harg3 arg4 harg4 X _ _ _ h33 h36 _ le_rfl p h

end Cert.KernelIdeal.Block
-- ==== Proof.Arrays.lean ====
module

public import proofs.«01_k».proof.Proof.Codes
public import proofs.«01_k».proof.Proof.Gen.KernelIdeal.Value
public import Idealize.ShloMosaic.Lib.Pipeline.ValueKit.Geometry

@[expose] public section

set_option maxRecDepth 16384

noncomputable section

namespace Cert.KernelIdeal.Arrays

open Cert.KernelIdeal Cert.KernelIdeal.Gen Cert.KernelIdeal.Block
open Idealize.ShloMosaic
open Idealize.ShloMosaic.TcCoe Idealize.SL.Sem
open Idealize.ShloMosaic.ValueIdx

variable (m : (ℓ : Loc nD τ sig) → Buf (Elt Ideal) ℓ) (ρ : Dev nD → PrngReg)

/-- The argument as 6144 rows. -/
abbrev rows (x : FVec Ideal S2x3072x50304 .bf16) : FVec Ideal S6144x50304 .bf16 :=
  shapeCast S6144x50304 x shapeCasts_S2x3072x50304_S6144x50304

/-- One row of an array of 6144. -/
def rowOf (X : S6144x50304.Idx → EReal) (r : Fin 6144) : Fin 50304 → EReal := fun j => X (ix2 r j)

/-- The array the kernel reads is the argument as 6144 rows. -/
theorem V_main_v0 (c : Dev nD) : V m c main_v0 = rows (m ((c : Thread nD τ).loc main_arg0)) := by
  show StableHlo.after hostOps0 _ (Proc.devRef .tc main_v0) = _
  after_results
  rfl

/-- Grid point `t` works on block `t` of the rows. -/
theorem idx0 : ∀ t : Fin cfg0.N, win0_0.index t = ![t.val, 0] := (by decide +kernel : ∀ t : Fin grid0.N, _)
/-- Grid point `t` writes block `t` of the log-sums. -/
theorem idx1 : ∀ t : Fin cfg0.N, win0_1.index t = ![t.val, 0] := (by decide +kernel : ∀ t : Fin grid0.N, _)
/-- Grid point `t` writes block `t` of the codes. -/
theorem idx2 : ∀ t : Fin cfg0.N, win0_2.index t = ![t.val, 0] := (by decide +kernel : ∀ t : Fin grid0.N, _)
/-- Grid point `t` writes block `t` of the scales. -/
theorem idx3 : ∀ t : Fin cfg0.N, win0_3.index t = ![t.val, 0] := (by decide +kernel : ∀ t : Fin grid0.N, _)

/-- The row of the array that row `r` of block `t` is. -/
def rowIdx (t : Fin cfg0.N) (r : Fin 32) : Fin 6144 := ⟨32 * t.val + r.val, by have : t.val < 192 := t.isLt; omega⟩

/-- What the kernel reads at grid point `t`. -/
theorem iblk_at (c : Dev nD) (t : Fin cfg0.N) (r : Fin 32) (j : Fin 50304) :
    iblk m c 0 t (ix2 r j) = rows (m ((c : Thread nD τ).loc main_arg0)) (ix2 (rowIdx t r) j) := by
  rw [← V_main_v0]
  blk_simp [iblk]
  refine congrArg (V m c main_v0) ?_
  blk_ext [idx0, rowIdx]
  show t.val * 32 + r.val = 32 * t.val + r.val
  omega

/-- So a row of the block is a row of the array. -/
theorem row_iblk (c : Dev nD) (t : Fin cfg0.N) (r : Fin 32) :
    row (iblk m c 0 t) r = rowOf (rows (m ((c : Thread nD τ).loc main_arg0))) (rowIdx t r) := funext fun j => iblk_at m c t r j

/-- The array of log-sums. -/
def lseArr (X : S6144x50304.Idx → EReal) : FVec Ideal S6144x1 .f32 := fun i => lseRel (rowOf X (i 0))
/-- The array of codes. -/
def codeArr (X : S6144x50304.Idx → EReal) : FVec Ideal S6144x50304 .fp8e4m3 := fun i =>
  codeOf (amax (rowOf X (i 0))) (lse (rowOf X (i 0))) (rowOf X (i 0) (i 1))
/-- The array of scales. -/
def scaleArr (X : S6144x50304.Idx → EReal) : FVec Ideal S6144x1 .f32 := fun i => scaleOf (amax (rowOf X (i 0)))

/-- A row of a block is the row of the whole array that the block's place gives it. -/
theorem row_eq (c : Dev nD) (t : Fin cfg0.grid.N) (r : Fin 32) (q : Fin 6144) (h : q = rowIdx t r) :
    row (iblk m c 0 t) r = rowOf (rows (m ((c : Thread nD τ).loc main_arg0))) q :=
  (row_iblk m c t r).trans (congrArg (rowOf _) h.symm)

/-- The first result array. -/
theorem final1 (c : Dev nD) : (dats m 0 c).arrAt 1 cfg0.N = lseArr (rows (m ((c : Thread nD τ).loc main_arg0))) := by
  refine (dats m 0 c).arrAt_eq_of_covers 1 _ (by decide +kernel) fun t hf y => ?_
  blk_simp
  rw [after0_1]
  have hy : y = ix2 (y 0) (y 1) := eq_ix2 y
  have he : ((win0_1.blk t).view.emb y) 0 = rowIdx t (y 0) := Fin.ext (by blk_simp [idx1]; exact Nat.add_right_cancel_iff.mpr (Nat.mul_comm _ _))
  refine (congrArg _ hy).trans ((out1_at c _ _ _ _ _ _ _ _ _ _ (y 0) (y 1)).trans ?_)
  exact congrArg lseRel (row_eq m c t _ _ he)

/-- The third result array. -/
theorem final3 (c : Dev nD) : (dats m 0 c).arrAt 3 cfg0.N = scaleArr (rows (m ((c : Thread nD τ).loc main_arg0))) := by
  refine (dats m 0 c).arrAt_eq_of_covers 3 _ (by decide +kernel) fun t hf y => ?_
  blk_simp
  rw [after0_3]
  have hy : y = ix2 (y 0) (y 1) := eq_ix2 y
  have he : ((win0_3.blk t).view.emb y) 0 = rowIdx t (y 0) := Fin.ext (by blk_simp [idx3]; exact Nat.add_right_cancel_iff.mpr (Nat.mul_comm _ _))
  refine (congrArg _ hy).trans ((out3_at c _ _ _ _ _ _ _ _ _ _ (y 0) (y 1)).trans ?_)
  exact congrArg (fun f => scaleOf (amax f)) (row_eq m c t _ _ he)

/-- The second result array. -/
theorem final2 (c : Dev nD) : (dats m 0 c).arrAt 2 cfg0.N = codeArr (rows (m ((c : Thread nD τ).loc main_arg0))) := by
  refine (dats m 0 c).arrAt_eq_of_covers 2 _ (by decide +kernel) fun t hf y => ?_
  blk_simp
  rw [after0_2]
  have hy : y = ix2 (y 0) (y 1) := eq_ix2 y
  have he : ((win0_2.blk t).view.emb y) 0 = rowIdx t (y 0) := Fin.ext (by blk_simp [idx2]; exact Nat.add_right_cancel_iff.mpr (Nat.mul_comm _ _))
  have h1 : ((win0_2.blk t).view.emb y) 1 = y 1 := Fin.ext (by blk_simp [idx2])
  refine (out2_at c _ _ _ _ _ _ _ _ _ _ y).trans ?_
  have hx := (congrArg (iblk m c 0 t) hy).trans ((iblk_at m c t (y 0) (y 1)).trans
    (congrArg₂ (fun r j => rows (m ((c : Thread nD τ).loc main_arg0)) (ix2 r j)) he.symm h1.symm))
  exact congrArg₂ (fun f z => codeOf (amax f) (lse f) z) (row_eq m c t _ _ he) hx

/-- The kernel's run, its three results as these arrays. -/
theorem run : θ_run defs (onTc (τ := τ) (main (F := Ideal))) ⟨m, fun _ => 0, ρ⟩ fun r => ∀ c : Dev nD,
      r.2.mem ((c : Thread nD τ).loc main_v1_0) = lseArr (rows (m ((c : Thread nD τ).loc main_arg0)))
      ∧ r.2.mem ((c : Thread nD τ).loc main_v1_1) = codeArr (rows (m ((c : Thread nD τ).loc main_arg0)))
      ∧ r.2.mem ((c : Thread nD τ).loc main_v1_2) = scaleArr (rows (m ((c : Thread nD τ).loc main_arg0)))
      ∧ r.2.mem ((c : Thread nD τ).loc main_arg0) = m ((c : Thread nD τ).loc main_arg0) :=
  (θ_run defs _ _).mono (fun _ h c => ⟨(h c).1.trans (final1 m c), (h c).2.1.trans (final2 m c), (h c).2.2.1.trans (final3 m c), (h c).2.2.2⟩)
    (Cert.KernelIdeal.Value.run_blocks m ρ)

end Cert.KernelIdeal.Arrays

end
-- ==== Proof.Exponent.lean ====
module

public import proofs.«01_k».proof.Proof.Block

@[expose] public section

set_option maxRecDepth 16384

noncomputable section

namespace Cert.KernelIdeal.Block

open Idealize.ShloMosaic

/-! ### The exponent the kernel counts is the exponent of the value -/

/-- The float whose bits are the word `k` moved into the exponent field. -/
def word (k : ℕ) : EReal := Ideal.ofBits .f32 (IntOp.shli .vector (BitVec.ofNat 32 k) 23#32)

/-- The fields of such a word: the sign is plus, the exponent field is `k`, the fraction is zero. -/
theorem word_fields : ∀ k : Fin 256,
    ((IntOp.shli .vector (BitVec.ofNat 32 k.val) 23#32).extractLsb' 31 1 == 1#1) = false
    ∧ ((IntOp.shli .vector (BitVec.ofNat 32 k.val) 23#32).extractLsb' 23 8).toNat = k.val
    ∧ ((IntOp.shli .vector (BitVec.ofNat 32 k.val) 23#32).extractLsb' 0 23).toNat = 0 := by
  decide +kernel

/-- A positive word with a zero fraction and the exponent field `k` between 1 and 254. -/
theorem ieee_pow (b : BitVec 32) (k : ℕ) (h1 : 1 ≤ k) (h2 : k ≤ 254) (e1 : (b.extractLsb' 31 1 == 1#1) = false)
    (e2 : (b.extractLsb' 23 8).toNat = k) (e3 : (b.extractLsb' 0 23).toNat = 0) :
    Ideal.ieee 8 23 b = (((2 : ℝ) ^ ((k : ℤ) - 127) : ℝ) : EReal) := by
  have n1 : ¬ k = 2 ^ 8 - 1 := by omega
  have n0 : ¬ k = 0 := by omega
  unfold Ideal.ieee
  simp only [Nat.reduceAdd, e1, e2, e3, if_neg n1, if_neg n0]
  congr 1
  have h : (((2 ^ 23 + 0 : ℕ) : ℕ) : ℝ) = (2 : ℝ) ^ (23 : ℤ) := by norm_num
  have hs : (if (false : Bool) = true then (-1 : ℝ) else 1) = 1 := if_neg (by decide)
  rw [h, hs, one_mul, ← zpow_add₀ (by norm_num)]
  congr 1
  norm_num

/-- The word with a zero exponent field is zero. -/
theorem ieee_zero (b : BitVec 32) (e1 : (b.extractLsb' 31 1 == 1#1) = false)
    (e2 : (b.extractLsb' 23 8).toNat = 0) (e3 : (b.extractLsb' 0 23).toNat = 0) : Ideal.ieee 8 23 b = 0 := by
  simp [Ideal.ieee, e2, e3]

/-- The positive word with the exponent field all ones and a zero fraction is plus infinity. -/
theorem ieee_top (b : BitVec 32) (e1 : (b.extractLsb' 31 1 == 1#1) = false)
    (e2 : (b.extractLsb' 23 8).toNat = 255) (e3 : (b.extractLsb' 0 23).toNat = 0) : Ideal.ieee 8 23 b = ⊤ := by
  have h : (255 : ℕ) = 2 ^ 8 - 1 := rfl
  unfold Ideal.ieee
  simp only [Nat.reduceAdd, e1, e2, e3, if_pos h]
  simp

/-- The word with the exponent field zero. -/
theorem word_zero : word 0 = 0 := by
  obtain ⟨h1, h2, h3⟩ := word_fields 0
  exact ieee_zero _ h1 h2 h3

/-- The word with the exponent field `k` between 1 and 254 is a power of two. -/
theorem word_pow (k : ℕ) (h1 : 1 ≤ k) (h2 : k ≤ 254) : word k = (((2 : ℝ) ^ ((k : ℤ) - 127) : ℝ) : EReal) := by
  obtain ⟨e1, e2, e3⟩ := word_fields ⟨k, by omega⟩
  exact ieee_pow _ k h1 h2 e1 e2 e3

/-- The word with the exponent field all ones. -/
theorem word_top : word 255 = ⊤ := by
  obtain ⟨e1, e2, e3⟩ := word_fields 255
  exact ieee_top _ e1 e2 e3

/-- Taking 127 off a word and adding it back. -/
theorem pow2_sub (b : BitVec 32) : pow2 (IntOp.subi b 127#32) = Ideal.ofBits .f32 (IntOp.shli .vector b 23#32) := by
  unfold pow2 IntOp.addi IntOp.subi
  rw [BitVec.sub_add_cancel]

/-- The thresholds are the words in order. -/
theorem thr_eq (k : ℕ) : thr k = word k := pow2_sub _

/-- A threshold is reached by a value in the binade of `e` when its exponent field is at most `e + 127`. -/
theorem word_le_iff (v : ℝ) (e : ℤ) (h1 : (2 : ℝ) ^ e ≤ v) (h2 : v < (2 : ℝ) ^ (e + 1)) (hl : -126 ≤ e) (hu : e ≤ 125)
    (k : ℕ) (hk : k < 256) : word k ≤ (v : EReal) ↔ k < (e + 128).toNat := by
  have hv : 0 < v := lt_of_lt_of_le (zpow_pos (by norm_num) e) h1
  rcases Nat.eq_zero_or_pos k with rfl | hp
  · rw [word_zero]
    exact ⟨fun _ => by omega, fun _ => by exact_mod_cast hv.le⟩
  · rcases Nat.lt_or_ge k 255 with hk' | hk'
    · rw [word_pow k hp (by omega), EReal.coe_le_coe_iff]
      constructor
      · intro h
        have := (zpow_lt_zpow_iff_right₀ (by norm_num : (1 : ℝ) < 2)).mp (lt_of_le_of_lt h h2)
        omega
      · intro h
        exact le_trans ((zpow_le_zpow_iff_right₀ (by norm_num : (1 : ℝ) < 2)).mpr (by omega)) h1
    · have : k = 255 := by omega
      subst this
      rw [word_top]
      exact ⟨fun h => absurd (top_le_iff.mp h) (EReal.coe_ne_top v), fun h => by omega⟩

/-- So the kernel counts `e + 128` thresholds. -/
theorem count_eq (v : ℝ) (e : ℤ) (h1 : (2 : ℝ) ^ e ≤ v) (h2 : v < (2 : ℝ) ^ (e + 1)) (hl : -126 ≤ e) (hu : e ≤ 125) :
    (Finset.univ.filter fun k : Fin 256 => Ideal.cmp .oge (v : EReal) (thr k.val) = 1#1).card = (e + 128).toNat := by
  have : (Finset.univ.filter fun k : Fin 256 => Ideal.cmp .oge (v : EReal) (thr k.val) = 1#1)
      = Finset.univ.filter fun k : Fin 256 => k.val < (e + 128).toNat := by
    refine Finset.filter_congr fun k _ => ?_
    rw [thr_eq, ← word_le_iff v e h1 h2 hl hu k.val k.isLt]
    by_cases h : word k.val ≤ (v : EReal) <;> simp [Ideal.cmp, h]
  rw [this, Fin.card_filter_val_lt]
  omega

/-- The power of two the kernel builds of its count. -/
theorem pow2_expo (v : ℝ) (e : ℤ) (h1 : (2 : ℝ) ^ e ≤ v) (h2 : v < (2 : ℝ) ^ (e + 1)) (hl : -126 ≤ e) (hu : e ≤ 125) :
    pow2 (expo (v : EReal)) = (((2 : ℝ) ^ (e + 1) : ℝ) : EReal) := by
  unfold expo
  rw [count_eq v e h1 h2 hl hu, pow2_sub]
  refine (word_pow (e + 128).toNat (by omega) (by omega)).trans ?_
  congr 2
  omega

/-- Its reciprocal, built of the negated count. -/
theorem pow2_neg_expo (v : ℝ) (e : ℤ) (h1 : (2 : ℝ) ^ e ≤ v) (h2 : v < (2 : ℝ) ^ (e + 1)) (hl : -126 ≤ e) (hu : e ≤ 125) :
    pow2 (IntOp.subi 0#32 (expo (v : EReal))) = (((2 : ℝ) ^ (-(e + 1)) : ℝ) : EReal) := by
  unfold expo
  rw [count_eq v e h1 h2 hl hu]
  have hw : IntOp.addi (IntOp.subi 0#32 (IntOp.subi (BitVec.ofNat 32 (e + 128).toNat) 127#32)) 127#32
      = BitVec.ofNat 32 (126 - e).toNat := by
    obtain ⟨n, hn⟩ : ∃ n : ℕ, (e + 128).toNat = n := ⟨_, rfl⟩
    have hm : (126 - e).toNat = 254 - n := by omega
    have hn' : n ≤ 254 := by omega
    rw [hn, hm]
    unfold IntOp.addi IntOp.subi
    apply BitVec.eq_of_toNat_eq
    simp only [BitVec.toNat_add, BitVec.toNat_sub, BitVec.toNat_ofNat]
    omega
  unfold pow2
  rw [hw]
  refine (word_pow (126 - e).toNat (by omega) (by omega)).trans ?_
  congr 2
  omega

end Cert.KernelIdeal.Block

end
-- ==== Proof.RefRow.lean ====
module

public import Idealize.ShloMosaic.PureOps.Ideal

@[expose] public section

noncomputable section

namespace Cert.ReferenceIdeal.Row

open Idealize.ShloMosaic

/-! ### What the reference computes of one row -/

/-- A logit over the temperature. -/
def z (x : EReal) : EReal := Ideal.div x (Ideal.ofBits .f32 0x3F4CCCCD#32)
/-- The row's largest scaled logit. -/
def zMax (f : Fin 50304 → EReal) : EReal := Finset.univ.sup fun j => z (f j)
/-- The row's smallest scaled logit. -/
def zMin (f : Fin 50304 → EReal) : EReal := Finset.univ.inf fun j => z (f j)
/-- The row's sum of exponentials relative to its largest. -/
def sumExp (f : Fin 50304 → EReal) : EReal := ∑ j, Ideal.exp (z (f j) - zMax f)
/-- The logarithm of that sum: the first result. -/
def lseRel (f : Fin 50304 → EReal) : EReal := Ideal.log (sumExp f)
/-- The logarithm of the row's sum of exponentials. -/
def lse (f : Fin 50304 → EReal) : EReal := zMax f + lseRel f
/-- The largest absolute value of the row's log-probabilities. -/
def amax (f : Fin 50304 → EReal) : EReal := lse f - zMin f
/-- The exponent of the scale: one more than the floor of the base-two logarithm of `a / 448`. -/
def expo (a : EReal) : EReal :=
  Ideal.liftRound Int.floor (Ideal.div (Ideal.log (a * Ideal.ofBits .f32 0x3B124925#32)) (Ideal.log (Ideal.ofBits .f32 0x40000000#32)))
    + Ideal.ofBits .f32 0x3F800000#32
/-- The row's scale: the third result. -/
def scale (a : EReal) : EReal := Ideal.pow (Ideal.ofBits .f32 0x40000000#32) (expo a)
/-- The reciprocal of the scale. -/
def inv (a : EReal) : EReal := Ideal.pow (Ideal.ofBits .f32 0x40000000#32) (-(expo a))
/-- The code of one element, clipped to `±448`: the second result. -/
def code (a L x : EReal) : EReal :=
  min (Ideal.ofBits .f32 0x43E00000#32) (max (Ideal.ofBits .f32 0xC3E00000#32) ((z x - L) * inv a))

end Cert.ReferenceIdeal.Row

end
-- ==== Proof.Equation.lean ====
module

public import proofs.«01_k».proof.Proof.Exponent
public import proofs.«01_k».proof.Proof.RefRow

@[expose] public section

set_option maxRecDepth 16384

noncomputable section

namespace Cert.KernelIdeal.Equation

open Idealize.ShloMosaic
open Cert.KernelIdeal.Block (term cexp invT)
open Cert.ReferenceIdeal

/-! ### The constants -/

/-- The temperature: the float nearest `0.8`. -/
abbrev t : ℝ := 13421773 / 16777216
/-- The float nearest `1/448`. -/
abbrev c448 : ℝ := 9586981 / 4294967296

/-- The temperature is positive. -/
theorem t_pos : 0 < t := by norm_num
/-- The word of the temperature denotes that real number. -/
theorem t_coe : Ideal.ofBits .f32 0x3F4CCCCD#32 = ((t : ℝ) : EReal) := by
  simp [Ideal.ofBits, Ideal.ieee, -EReal.coe_mul]; norm_num
/-- The word of `1/448` denotes that real number. -/
theorem c448_coe : Ideal.ofBits .f32 0x3B124925#32 = ((c448 : ℝ) : EReal) := by
  simp [Ideal.ofBits, Ideal.ieee, -EReal.coe_mul]; norm_num
/-- The word of two denotes the real number two. -/
theorem two_coe : Ideal.ofBits .f32 0x40000000#32 = ((2 : ℝ) : EReal) := by
  simp [Ideal.ofBits, Ideal.ieee, -EReal.coe_mul]; norm_num
/-- The word of one denotes the real number one. -/
theorem one_coe : Ideal.ofBits .f32 0x3F800000#32 = ((1 : ℝ) : EReal) := by
  simp [Ideal.ofBits, Ideal.ieee, -EReal.coe_mul]; norm_num

/-- The kernel's constant is `log2(e)` over the temperature. -/
theorem cexp_coe : cexp = (((Real.log 2)⁻¹ * t⁻¹ : ℝ) : EReal) :=
  IdealRules.named_const.ideal_named_scalar _ _ _ _ rfl

/-- The kernel's reciprocal of the temperature. -/
theorem invT_coe : invT = ((1 / t : ℝ) : EReal) := by
  show Ideal.div (Ideal.ofBits .f32 0x3F800000#32) (Ideal.ofBits .f32 0x3F4CCCCD#32) = _
  rw [one_coe, t_coe, Ideal.div_coe t_pos.ne', ← EReal.coe_mul, one_mul]

/-! ### Rows of real numbers -/

/-- A finite sum of reals is the same taken in the extended reals. -/
theorem coe_sum {ι : Type} (s : Finset ι) (g : ι → ℝ) : ∑ j ∈ s, (g j : EReal) = ((∑ j ∈ s, g j : ℝ) : EReal) := by
  classical
  induction s using Finset.induction_on with
  | empty => simp
  | insert a s ha ih => rw [Finset.sum_insert ha, Finset.sum_insert ha, ih, EReal.coe_add]

/-- The supremum of a row is the element that no other exceeds. -/
theorem sup_coe {n : ℕ} (ρ : Fin n → ℝ) (i : Fin n) (h : ∀ j, ρ j ≤ ρ i) : (Finset.univ.sup fun j => (ρ j : EReal)) = ρ i :=
  le_antisymm (Finset.sup_le fun j _ => EReal.coe_le_coe_iff.mpr (h j)) (Finset.le_sup (f := fun j => (ρ j : EReal)) (Finset.mem_univ i))

/-- The infimum of a row is the element that exceeds no other. -/
theorem inf_coe {n : ℕ} (ρ : Fin n → ℝ) (i : Fin n) (h : ∀ j, ρ i ≤ ρ j) : (Finset.univ.inf fun j => (ρ j : EReal)) = ρ i :=
  le_antisymm (Finset.inf_le (f := fun j => (ρ j : EReal)) (Finset.mem_univ i)) (Finset.le_inf fun j _ => EReal.coe_le_coe_iff.mpr (h j))

/-- A logit over the temperature is a real quotient. -/
theorem z_coe (r : ℝ) : Row.z (r : EReal) = ((r / t : ℝ) : EReal) := by
  unfold Row.z
  rw [t_coe, Ideal.div_coe t_pos.ne', ← EReal.coe_mul]
  congr 1
  ring

/-- The kernel's base-two term is the natural exponential of the difference over the temperature. -/
theorem term_coe (m r : ℝ) : term (m : EReal) (r : EReal) = ((Real.exp ((r - m) / t) : ℝ) : EReal) := by
  unfold term
  rw [cexp_coe, ← EReal.coe_sub, ← EReal.coe_mul, Ideal.exp2_coe]
  congr 1
  have h2 : Real.log 2 ≠ 0 := (Real.log_pos (by norm_num)).ne'
  show (2 : ℝ) ^ ((r - m) * ((Real.log 2)⁻¹ * t⁻¹) : ℝ) = _
  rw [Real.rpow_def_of_pos (by norm_num)]
  congr 1
  field_simp

/-- The row's sum of exponentials relative to `m`. -/
def S (ρ : Fin 50304 → ℝ) (m : ℝ) : ℝ := ∑ j, Real.exp ((ρ j - m) / t)

/-- The sum of exponentials of a row is positive. -/
theorem S_pos (ρ : Fin 50304 → ℝ) (m : ℝ) : 0 < S ρ m :=
  Finset.sum_pos (fun j _ => Real.exp_pos _) ⟨0, Finset.mem_univ _⟩

/-- With the least element `l`: the sum is at least 50304 times the least term. -/
theorem S_ge (ρ : Fin 50304 → ℝ) (m l : ℝ) (h : ∀ j, l ≤ ρ j) : 50304 * Real.exp ((l - m) / t) ≤ S ρ m := by
  have := Finset.card_nsmul_le_sum Finset.univ (fun j => Real.exp ((ρ j - m) / t)) (Real.exp ((l - m) / t)) fun j _ =>
    Real.exp_le_exp.mpr ((div_le_div_iff_of_pos_right t_pos).mpr (by linarith [h j]))
  rw [Finset.card_univ, Fintype.card_fin, nsmul_eq_mul] at this
  exact_mod_cast this

/-- With the greatest element `m`: the sum is at most 50304. -/
theorem S_le (ρ : Fin 50304 → ℝ) (m : ℝ) (h : ∀ j, ρ j ≤ m) : S ρ m ≤ 50304 := by
  have := Finset.sum_le_card_nsmul Finset.univ (fun j => Real.exp ((ρ j - m) / t)) 1 fun j _ =>
    Real.exp_le_one_iff.mpr (div_nonpos_of_nonpos_of_nonneg (by linarith [h j]) t_pos.le)
  rw [Finset.card_univ, Fintype.card_fin, nsmul_eq_mul, mul_one] at this
  exact_mod_cast this

/-- The largest absolute log-probability of a row with greatest element `m` and least element `l`. -/
def A (ρ : Fin 50304 → ℝ) (m l : ℝ) : ℝ := m / t + Real.log (S ρ m) - l / t

/-- It is at least one. -/
theorem A_ge (ρ : Fin 50304 → ℝ) (m l : ℝ) (h : ∀ j, l ≤ ρ j) : 1 ≤ A ρ m l := by
  have h1 : Real.exp (1 + (l - m) / t) ≤ S ρ m := by
    refine le_trans ?_ (S_ge ρ m l h)
    rw [Real.exp_add]
    refine mul_le_mul_of_nonneg_right ?_ (Real.exp_pos _).le
    have h1 := Real.one_sub_le_exp_neg (1 / 2)
    have h2 : Real.exp 1 * (Real.exp (-(1 / 2)) * Real.exp (-(1 / 2))) = 1 := by
      rw [← Real.exp_add, ← Real.exp_add]
      norm_num
    nlinarith [Real.exp_pos 1]
  have h2 := (Real.le_log_iff_exp_le (S_pos ρ m)).mpr h1
  unfold A
  have h3 : (l - m) / t = l / t - m / t := sub_div _ _ _
  linarith

/-- It is below `2^131` when the row's absolute values are at most `2^128`. -/
theorem A_le (ρ : Fin 50304 → ℝ) (m l : ℝ) (h : ∀ j, ρ j ≤ m) (hm : m ≤ 2 ^ 128) (hl : -(2 ^ 128) ≤ l) : A ρ m l ≤ 2 ^ 131 := by
  have h1 : Real.log (S ρ m) ≤ 50304 := by
    have := Real.log_le_sub_one_of_pos (S_pos ρ m)
    linarith [S_le ρ m h]
  have h2 : m / t ≤ 2 ^ 129 := by
    rw [div_le_iff₀ t_pos]
    refine hm.trans ?_
    norm_num [t]
  have h3 : -(2 ^ 129) ≤ l / t := by
    rw [le_div_iff₀ t_pos]
    refine le_trans ?_ hl
    norm_num [t]
  unfold A
  norm_num at h2 h3 ⊢
  linarith

/-! ### The scale -/

/-- The exponent `e` of `a / 448`, with the power of two the reference raises and the one the kernel builds. -/
theorem scales (a : ℝ) (h1 : 1 ≤ a) (h2 : a ≤ 2 ^ 131) : ∃ p : ℝ,
    Block.scaleOf (a : EReal) = Row.scale (a : EReal) ∧ Block.invOf (a : EReal) = (p : EReal) ∧ Row.inv (a : EReal) = (p : EReal) := by
  have hv : 0 < a * c448 := by positivity
  have hlog : 0 < Real.log 2 := Real.log_pos (by norm_num)
  obtain ⟨e, he⟩ : ∃ e : ℤ, ⌊Real.log (a * c448) / Real.log 2⌋ = e := ⟨_, rfl⟩
  have hexp : Row.expo (a : EReal) = (((e + 1 : ℤ) : ℝ) : EReal) := by
    unfold Row.expo
    rw [c448_coe, two_coe, one_coe, ← EReal.coe_mul, Ideal.log_coe, Ideal.log_coe, if_neg (not_le.mpr hv), if_neg (by norm_num),
      Ideal.div_coe hlog.ne', ← EReal.coe_mul, mul_one_div, Ideal.liftRound_coe, he, ← EReal.coe_add]
    push_cast
    rfl
  have hpow : ∀ k : ℤ, Ideal.pow ((2 : ℝ) : EReal) (((k : ℤ) : ℝ) : EReal) = (((2 : ℝ) ^ k : ℝ) : EReal) := by
    intro k
    rw [Ideal.pow_coe_coe]
    congr 1
    exact Real.rpow_intCast 2 k
  obtain ⟨g1, g2⟩ := Int.floor_eq_iff.mp he
  have l1 : (2 : ℝ) ^ e ≤ a * c448 := by
    rw [← Real.rpow_intCast, Real.rpow_def_of_pos (by norm_num), ← Real.le_log_iff_exp_le hv, mul_comm (Real.log 2)]
    exact (le_div_iff₀ hlog).mp g1
  have l2 : a * c448 < (2 : ℝ) ^ (e + 1) := by
    rw [← Real.rpow_intCast, Real.rpow_def_of_pos (by norm_num), ← Real.log_lt_iff_lt_exp hv, mul_comm (Real.log 2)]
    push_cast
    exact (div_lt_iff₀ hlog).mp g2
  have b1 : -126 ≤ e := by
    have : (2 : ℝ) ^ (-126 : ℤ) < (2 : ℝ) ^ (e + 1) := by
      refine lt_of_le_of_lt ?_ l2
      refine le_trans (b := c448) (by norm_num) ?_
      exact le_mul_of_one_le_left (by norm_num) h1
    have := (zpow_lt_zpow_iff_right₀ (by norm_num : (1 : ℝ) < 2)).mp this
    omega
  have b2 : e ≤ 125 := by
    have : (2 : ℝ) ^ e < (2 : ℝ) ^ (126 : ℤ) := by
      refine lt_of_le_of_lt (l1.trans (mul_le_mul_of_nonneg_right h2 (by norm_num))) ?_
      norm_num
    have := (zpow_lt_zpow_iff_right₀ (by norm_num : (1 : ℝ) < 2)).mp this
    omega
  have hs : Block.scaled (a : EReal) = ((a * c448 : ℝ) : EReal) := by
    unfold Block.scaled
    rw [c448_coe, ← EReal.coe_mul]
  refine ⟨(2 : ℝ) ^ (-(e + 1)), ?_, ?_, ?_⟩
  · unfold Block.scaleOf Row.scale
    rw [hs, Block.pow2_expo _ e l1 l2 b1 b2, hexp, two_coe, hpow]
  · unfold Block.invOf
    rw [hs, Block.pow2_neg_expo _ e l1 l2 b1 b2]
  · unfold Row.inv
    rw [hexp, two_coe, ← hpow (-(e + 1))]
    push_cast
    rfl

/-! ### The equation -/

/-- A row of finite values. -/
def Finite (f : Fin 50304 → EReal) : Prop := ∀ j, ∃ r : ℝ, f j = (r : EReal) ∧ |r| ≤ 2 ^ 128

/-- On a row of finite values the kernel's and the reference's intermediate values are the same real numbers. -/
theorem row_values (f : Fin 50304 → EReal) (hf : Finite f) : ∃ L a : ℝ,
    Block.lseRel f = Row.lseRel f ∧ Block.lse f = (L : EReal) ∧ Row.lse f = (L : EReal)
    ∧ Block.amax f = (a : EReal) ∧ Row.amax f = (a : EReal) ∧ 1 ≤ a ∧ a ≤ 2 ^ 131 := by
  choose ρ hρ hb using hf
  obtain rfl : f = fun j => (ρ j : EReal) := funext hρ
  obtain ⟨i, hi⟩ := Finite.exists_max ρ
  obtain ⟨k, hk⟩ := Finite.exists_min ρ
  have kM : Block.rowMax (fun j => (ρ j : EReal)) = ρ i := sup_coe ρ i hi
  have kN : Block.rowMin (fun j => (ρ j : EReal)) = ρ k := inf_coe ρ k hk
  have rM : Row.zMax (fun j => (ρ j : EReal)) = ((ρ i / t : ℝ) : EReal) := by
    unfold Row.zMax
    simp only [z_coe]
    exact sup_coe (fun j => ρ j / t) i fun j => (div_le_div_iff_of_pos_right t_pos).mpr (hi j)
  have rN : Row.zMin (fun j => (ρ j : EReal)) = ((ρ k / t : ℝ) : EReal) := by
    unfold Row.zMin
    simp only [z_coe]
    exact inf_coe (fun j => ρ j / t) k fun j => (div_le_div_iff_of_pos_right t_pos).mpr (hk j)
  have kS : Block.rowSum (fun j => (ρ j : EReal)) = ((S ρ (ρ i) : ℝ) : EReal) := by
    unfold Block.rowSum
    rw [kM]
    simp only [term_coe]
    exact coe_sum _ _
  have rS : Row.sumExp (fun j => (ρ j : EReal)) = ((S ρ (ρ i) : ℝ) : EReal) := by
    unfold Row.sumExp
    rw [rM]
    simp only [z_coe, ← EReal.coe_sub, Ideal.exp_coe, ← sub_div]
    exact coe_sum _ _
  have kR : Block.lseRel (fun j => (ρ j : EReal)) = ((Real.log (S ρ (ρ i)) : ℝ) : EReal) := by
    unfold Block.lseRel
    rw [kS, Ideal.log_coe, if_neg (not_le.mpr (S_pos _ _))]
  have rR : Row.lseRel (fun j => (ρ j : EReal)) = ((Real.log (S ρ (ρ i)) : ℝ) : EReal) := by
    unfold Row.lseRel
    rw [rS, Ideal.log_coe, if_neg (not_le.mpr (S_pos _ _))]
  have kL : Block.lse (fun j => (ρ j : EReal)) = ((ρ i / t + Real.log (S ρ (ρ i)) : ℝ) : EReal) := by
    unfold Block.lse
    rw [kM, kR, invT_coe, ← EReal.coe_mul, mul_one_div, ← EReal.coe_add]
  have rL : Row.lse (fun j => (ρ j : EReal)) = ((ρ i / t + Real.log (S ρ (ρ i)) : ℝ) : EReal) := by
    unfold Row.lse
    rw [rM, rR, ← EReal.coe_add]
  refine ⟨_, A ρ (ρ i) (ρ k), kR.trans rR.symm, kL, rL, ?_, ?_, A_ge ρ _ _ hk,
    A_le ρ _ _ hi (le_trans (le_abs_self _) (hb i)) (neg_le_of_abs_le (hb k))⟩
  · unfold Block.amax
    rw [kL, kN, invT_coe, ← EReal.coe_mul, mul_one_div, ← EReal.coe_sub]
    rfl
  · unfold Row.amax
    rw [rL, rN, ← EReal.coe_sub]
    rfl

/-- The first result: the logarithm of the row's relative sum. -/
theorem lseRel_eq (f : Fin 50304 → EReal) (hf : Finite f) : Block.lseRel f = Row.lseRel f := by
  obtain ⟨L, a, h, -⟩ := row_values f hf
  exact h

/-- The third result: the row's scale. -/
theorem scale_eq (f : Fin 50304 → EReal) (hf : Finite f) : Block.scaleOf (Block.amax f) = Row.scale (Row.amax f) := by
  obtain ⟨L, a, -, -, -, h1, h2, g1, g2⟩ := row_values f hf
  obtain ⟨p, hs, -⟩ := scales a g1 g2
  rw [h1, h2, hs]

/-- The second result: the code of each element. -/
theorem code_eq (f : Fin 50304 → EReal) (hf : Finite f) (j : Fin 50304) :
    Block.codeOf (Block.amax f) (Block.lse f) (f j) = Row.code (Row.amax f) (Row.lse f) (f j) := by
  obtain ⟨L, a, -, k1, k2, h1, h2, g1, g2⟩ := row_values f hf
  obtain ⟨p, -, hk, hr⟩ := scales a g1 g2
  obtain ⟨r, hj, -⟩ := hf j
  unfold Block.codeOf Row.code
  rw [h1, h2, k1, k2, hk, hr, hj, z_coe, invT_coe]
  rw [← EReal.coe_mul, ← EReal.coe_mul, ← EReal.coe_mul, ← EReal.coe_sub, ← EReal.coe_sub, ← EReal.coe_mul]
  have h : r * (p * (1 / t)) - p * L = (r / t - L) * p := by ring
  rw [h]

end Cert.KernelIdeal.Equation

end
-- ==== Proof.RefValue.lean ====
module

public import proofs.«01_k».proof.Proof.Gen.ReferenceIdeal.Run
public import proofs.«01_k».proof.Proof.RefRow
public import Idealize.ShloMosaic.Lib.ValueIdx
public import Idealize.ShloMosaic.Lib.Pipeline.Value
public import Idealize.ShloMosaic.PureOps.Ideal.Laws

@[expose] public section

set_option maxRecDepth 16384

noncomputable section

namespace Cert.ReferenceIdeal.RefValue

open Cert.ReferenceIdeal Cert.ReferenceIdeal.Gen
open Idealize.ShloMosaic Idealize.ShloMosaic.TcCoe Idealize.SL.Sem
open Idealize.ShloMosaic.ValueIdx

/-- One row of an array. -/
def row (X : S6144x50304.Idx → EReal) (r : Fin 6144) : Fin 50304 → EReal := fun j => X (ix2 r j)

/-- The index a reduction along the rows reads. -/
theorem lift_row (h : S6144x50304.Reduces [1] S6144) (r : Fin 6144) (k : Fin 50304) : h.lift (ix1 r) k = ix2 r k := by
  funext a
  match a with
  | ⟨0, _⟩ => rfl
  | ⟨1, _⟩ => rfl

/-- A column of 6144 values, viewed as a 6144 by 1 array. -/
theorem col_at {α : Type} (v : S6144.Idx → α) (r : Fin 6144) (z : Fin 1) :
    broadcastInDim S6144x1 ![0] bcast_S6144_S6144x1_0 v (ix2 r z) = v (ix1 r) := by
  refine broadcastInDim_apply _ _ _ _ _ ?_
  intro a
  match a with
  | ⟨0, _⟩ => rfl

/-- A 6144 by 1 array spread along the rows. -/
theorem spread_at {α : Type} (v : S6144x1.Idx → α) (r : Fin 6144) (j : Fin 50304) :
    broadcastInDim S6144x50304 ![0, 1] bcast_S6144x1_S6144x50304_0_1 v (ix2 r j) = v (ix2 r 0) := by
  refine broadcastInDim_apply _ _ _ _ _ ?_
  intro a
  match a with
  | ⟨0, _⟩ => rfl
  | ⟨1, _⟩ => rfl

/-- The rows' axis is one that can be reduced. -/
theorem reduces_row : S6144x50304.Reduces [1] S6144 := by decide

/-- The zero a sum starts from. -/
theorem zero_coe : Ideal.ofBits .f32 0x00000000#32 = (0 : EReal) := by simp [Ideal.ofBits, Ideal.ieee]

/-- A running maximum from minus infinity is the supremum. -/
theorem fold_max_eq_sup {ι : Type} (s : Finset ι) (g : ι → EReal) : s.fold max (Ideal.ofBits .f32 0xFF800000#32) g = s.sup g := by
  have : Ideal.ofBits .f32 0xFF800000#32 = (⊥ : EReal) := by simp [Ideal.ofBits, Ideal.ieee]
  rw [this]; rfl

/-- A running minimum from plus infinity is the infimum. -/
theorem fold_min_eq_inf {ι : Type} (s : Finset ι) (g : ι → EReal) : s.fold min (Ideal.ofBits .f32 0x7F800000#32) g = s.inf g := by
  have : Ideal.ofBits .f32 0x7F800000#32 = (⊤ : EReal) := by simp [Ideal.ofBits, Ideal.ieee]
  rw [this]; rfl

/-- The maximum along the rows, as a column. -/
theorem max_at (Z : FVec Ideal S6144x50304 .f32) (r : Fin 6144) (z : Fin 1) :
    broadcastInDim S6144x1 ![0] bcast_S6144_S6144x1_0
      (Host.reduce FloatOps.maximumf Z (constant S_ .f32 0xFF800000#32) reducesTo_S6144x50304_S6144_d1 h_S_) (ix2 r z)
      = Finset.univ.sup fun j : Fin 50304 => Z (ix2 r j) := by
  rw [col_at]
  refine (Host.reduce_eq_fold_single (a := 1) (FloatOps.maximumf (F := Ideal) (φ := .f32)) _ _ _ reduces_row _ _).trans ?_
  refine (fold_max_eq_sup _ _).trans ?_
  exact Finset.sup_congr rfl fun j _ => congrArg Z (lift_row reduces_row r j)

/-- The minimum along the rows, as a column. -/
theorem min_at (Z : FVec Ideal S6144x50304 .f32) (r : Fin 6144) (z : Fin 1) :
    broadcastInDim S6144x1 ![0] bcast_S6144_S6144x1_0
      (Host.reduce FloatOps.minimumf Z (constant S_ .f32 0x7F800000#32) reducesTo_S6144x50304_S6144_d1 h_S_) (ix2 r z)
      = Finset.univ.inf fun j : Fin 50304 => Z (ix2 r j) := by
  rw [col_at]
  refine (Host.reduce_eq_fold_single (a := 1) (FloatOps.minimumf (F := Ideal) (φ := .f32)) _ _ _ reduces_row _ _).trans ?_
  refine (fold_min_eq_inf _ _).trans ?_
  exact Finset.inf_congr rfl fun j _ => congrArg Z (lift_row reduces_row r j)

/-- The sum along the rows, as a column. -/
theorem sum_at (Z : FVec Ideal S6144x50304 .f32) (r : Fin 6144) (z : Fin 1) :
    broadcastInDim S6144x1 ![0] bcast_S6144_S6144x1_0
      (Host.reduceAdd Z (constant S_ .f32 0x00000000#32) reducesTo_S6144x50304_S6144_d1 h_S_) (ix2 r z)
      = ∑ j : Fin 50304, Z (ix2 r j) := by
  rw [col_at]
  refine (Ideal.hostReduceAdd_single (a := 1) _ reduces_row _ _ _).trans ?_
  refine (congrArg (· + _) zero_coe).trans ?_
  refine (zero_add _).trans ?_
  exact Finset.sum_congr rfl fun j _ => congrArg Z (lift_row reduces_row r j)

/-! ### The elementwise operations at an index -/

section Elementwise

variable {s : Shape} {φ : FTy} (x y : FVec Ideal s φ) (i : s.Idx)

/-- A sum at an index. -/
theorem add_at : addf x y i = (x i : EReal) + y i := rfl
/-- A difference at an index. -/
theorem sub_at : subf x y i = (x i : EReal) - y i := rfl
/-- A product at an index. -/
theorem mul_at : mulf x y i = (x i : EReal) * y i := rfl
/-- A minimum of two arrays at an index. -/
theorem min2_at : minimumf x y i = min (x i : EReal) (y i) := rfl
/-- A maximum of two arrays at an index. -/
theorem max2_at : maximumf x y i = max (x i : EReal) (y i) := rfl
/-- A quotient at an index. -/
theorem div_at : Host.divf x y i = Ideal.div (x i) (y i) := rfl
/-- A power at an index. -/
theorem pow_at : Host.powf x y i = Ideal.pow (x i) (y i) := rfl
/-- An exponential at an index. -/
theorem exp_at : Host.exp x i = Ideal.exp (x i) := rfl
/-- A logarithm at an index. -/
theorem log_at : Host.log x i = Ideal.log (x i) := rfl
/-- A negation at an index. -/
theorem neg_at : Host.negf x i = -(x i : EReal) := rfl
/-- A floor at an index. -/
theorem floor_at : Host.floor x i = Ideal.liftRound Int.floor (x i) := rfl
/-- A conversion to another format keeps the value at each index. -/
theorem conv_at (ψ : FTy) : Host.convertf ψ x i = (x i : EReal) := rfl
/-- Widening bf16 to f32 keeps the value at each index. -/
theorem ext_at (X : FVec Ideal s .bf16) : extf .f32 X bitsLt_bf16_f32 i = (X i : EReal) := rfl

end Elementwise

/-- A constant spread over the rows. -/
theorem const_at (b : BitVec 32) (i : S6144x50304.Idx) :
    broadcastInDim S6144x50304 ![] bcast_S_S6144x50304 (constant (F := Ideal) S_ .f32 b) i = Ideal.ofBits .f32 b := rfl

/-- A constant spread over a column. -/
theorem constCol_at (b : BitVec 32) (i : S6144x1.Idx) :
    broadcastInDim S6144x1 ![] bcast_S_S6144x1 (constant (F := Ideal) S_ .f32 b) i = Ideal.ofBits .f32 b := rfl

/-- The logarithm of a constant spread over a column. -/
theorem logCol_at (b : BitVec 32) (i : S6144x1.Idx) :
    broadcastInDim S6144x1 ![] bcast_S_S6144x1 (Host.log (constant (F := Ideal) S_ .f32 b)) i = Ideal.log (Ideal.ofBits .f32 b) := rfl

/-! ### The arrays the reference computes, one after another -/

/-- The scaled logits. -/
def zA (X : FVec Ideal S6144x50304 .bf16) : FVec Ideal S6144x50304 .f32 :=
  Host.divf (extf .f32 X bitsLt_bf16_f32) (broadcastInDim S6144x50304 ![] bcast_S_S6144x50304 (constant S_ .f32 0x3F4CCCCD#32))

/-- An element of the scaled logits is the scaled element of its row. -/
theorem zA_at (X : FVec Ideal S6144x50304 .bf16) (r : Fin 6144) (j : Fin 50304) : zA X (ix2 r j) = Row.z (row X r j) := by
  unfold zA Row.z row
  rw [div_at, ext_at, const_at]

/-- The column of the rows' largest scaled logits. -/
def maxA (X : FVec Ideal S6144x50304 .bf16) : FVec Ideal S6144x1 .f32 :=
  broadcastInDim S6144x1 ![0] bcast_S6144_S6144x1_0
    (Host.reduce FloatOps.maximumf (zA X) (constant S_ .f32 0xFF800000#32) reducesTo_S6144x50304_S6144_d1 h_S_)

/-- The maximum at a row is that of the row alone. -/
theorem maxA_at (X : FVec Ideal S6144x50304 .bf16) (r : Fin 6144) (z : Fin 1) : maxA X (ix2 r z) = Row.zMax (row X r) := by
  unfold maxA Row.zMax
  exact (max_at _ r z).trans (Finset.sup_congr rfl fun j _ => zA_at X r j)

/-- The column of the rows' smallest scaled logits. -/
def minA (X : FVec Ideal S6144x50304 .bf16) : FVec Ideal S6144x1 .f32 :=
  broadcastInDim S6144x1 ![0] bcast_S6144_S6144x1_0
    (Host.reduce FloatOps.minimumf (zA X) (constant S_ .f32 0x7F800000#32) reducesTo_S6144x50304_S6144_d1 h_S_)

/-- The minimum at a row is that of the row alone. -/
theorem minA_at (X : FVec Ideal S6144x50304 .bf16) (r : Fin 6144) (z : Fin 1) : minA X (ix2 r z) = Row.zMin (row X r) := by
  unfold minA Row.zMin
  exact (min_at _ r z).trans (Finset.inf_congr rfl fun j _ => zA_at X r j)

/-- The terms of the rows' sums. -/
def termA (X : FVec Ideal S6144x50304 .bf16) : FVec Ideal S6144x50304 .f32 :=
  Host.exp (subf (zA X) (broadcastInDim S6144x50304 ![0, 1] bcast_S6144x1_S6144x50304_0_1 (maxA X)))

/-- An element of the exponentials is the exponential of the element of its row. -/
theorem termA_at (X : FVec Ideal S6144x50304 .bf16) (r : Fin 6144) (j : Fin 50304) : termA X (ix2 r j) = Ideal.exp (Row.z (row X r j) - Row.zMax (row X r)) := by
  unfold termA
  rw [exp_at, sub_at, spread_at, maxA_at, zA_at]

/-- The column of the logarithms of the rows' sums: the first result. -/
def relA (X : FVec Ideal S6144x50304 .bf16) : FVec Ideal S6144x1 .f32 :=
  Host.log (broadcastInDim S6144x1 ![0] bcast_S6144_S6144x1_0
    (Host.reduceAdd (termA X) (constant S_ .f32 0x00000000#32) reducesTo_S6144x50304_S6144_d1 h_S_))

/-- The first result at a row is the relative log-sum of the row alone. -/
theorem relA_at (X : FVec Ideal S6144x50304 .bf16) (r : Fin 6144) (z : Fin 1) : relA X (ix2 r z) = Row.lseRel (row X r) := by
  unfold relA Row.lseRel Row.sumExp
  rw [log_at, sum_at]
  simp only [termA_at]

/-- The column of the rows' log-sums. -/
def lseA (X : FVec Ideal S6144x50304 .bf16) : FVec Ideal S6144x1 .f32 :=
  addf (maxA X) (relA X)

/-- The log-sum at a row is that of the row alone. -/
theorem lseA_at (X : FVec Ideal S6144x50304 .bf16) (r : Fin 6144) (z : Fin 1) : lseA X (ix2 r z) = Row.lse (row X r) := by
  unfold lseA Row.lse
  rw [add_at, maxA_at, relA_at]

/-- The column of the rows' largest absolute log-probabilities. -/
def amaxA (X : FVec Ideal S6144x50304 .bf16) : FVec Ideal S6144x1 .f32 :=
  subf (lseA X) (minA X)

/-- The largest absolute log-probability at a row is that of the row alone. -/
theorem amaxA_at (X : FVec Ideal S6144x50304 .bf16) (r : Fin 6144) (z : Fin 1) : amaxA X (ix2 r z) = Row.amax (row X r) := by
  unfold amaxA Row.amax
  rw [sub_at, lseA_at, minA_at]

/-- The column of the rows' exponents. -/
def expA (X : FVec Ideal S6144x50304 .bf16) : FVec Ideal S6144x1 .f32 :=
  addf (Host.floor (Host.divf (Host.log (mulf (amaxA X) (broadcastInDim S6144x1 ![] bcast_S_S6144x1 (constant S_ .f32 0x3B124925#32))))
    (broadcastInDim S6144x1 ![] bcast_S_S6144x1 (Host.log (constant S_ .f32 0x40000000#32)))))
    (broadcastInDim S6144x1 ![] bcast_S_S6144x1 (constant S_ .f32 0x3F800000#32))

/-- The exponent at a row is that of the row alone. -/
theorem expA_at (X : FVec Ideal S6144x50304 .bf16) (r : Fin 6144) (z : Fin 1) : expA X (ix2 r z) = Row.expo (Row.amax (row X r)) := by
  unfold expA Row.expo
  rw [add_at, floor_at, div_at, log_at, mul_at, constCol_at, constCol_at, logCol_at, amaxA_at]

/-- The column of the rows' scales: the third result. -/
def scaleA (X : FVec Ideal S6144x50304 .bf16) : FVec Ideal S6144x1 .f32 :=
  Host.powf (broadcastInDim S6144x1 ![] bcast_S_S6144x1 (constant S_ .f32 0x40000000#32)) (expA X)

/-- The third result at a row is the scale of the row alone. -/
theorem scaleA_at (X : FVec Ideal S6144x50304 .bf16) (r : Fin 6144) (z : Fin 1) : scaleA X (ix2 r z) = Row.scale (Row.amax (row X r)) := by
  unfold scaleA Row.scale
  rw [pow_at, constCol_at, expA_at]

/-- The column of the scales' reciprocals. -/
def invA (X : FVec Ideal S6144x50304 .bf16) : FVec Ideal S6144x1 .f32 :=
  Host.powf (broadcastInDim S6144x1 ![] bcast_S_S6144x1 (constant S_ .f32 0x40000000#32)) (Host.negf (expA X))

/-- The reciprocal scale at a row is that of the row alone. -/
theorem invA_at (X : FVec Ideal S6144x50304 .bf16) (r : Fin 6144) (z : Fin 1) : invA X (ix2 r z) = Row.inv (Row.amax (row X r)) := by
  unfold invA Row.inv
  rw [pow_at, neg_at, constCol_at, expA_at]

/-- The array of codes: the second result. -/
def codeA (X : FVec Ideal S6144x50304 .bf16) : FVec Ideal S6144x50304 .fp8e4m3 :=
  Host.convertf .fp8e4m3 (minimumf (broadcastInDim S6144x50304 ![] bcast_S_S6144x50304 (id (constant S_ .f32 0x43E00000#32)))
    (maximumf (broadcastInDim S6144x50304 ![] bcast_S_S6144x50304 (id (constant S_ .f32 0xC3E00000#32)))
      (mulf (subf (zA X) (broadcastInDim S6144x50304 ![0, 1] bcast_S6144x1_S6144x50304_0_1 (lseA X)))
        (broadcastInDim S6144x50304 ![0, 1] bcast_S6144x1_S6144x50304_0_1 (invA X)))))

/-- The second result at an element is the code of the element of its row. -/
theorem codeA_at (X : FVec Ideal S6144x50304 .bf16) (r : Fin 6144) (j : Fin 50304) : codeA X (ix2 r j) = Row.code (Row.amax (row X r)) (Row.lse (row X r)) (row X r j) := by
  unfold codeA Row.code
  rw [conv_at, min2_at, max2_at, mul_at, sub_at, spread_at, spread_at, id, id, const_at, const_at, zA_at, lseA_at, invA_at]

variable (m : (ℓ : Loc nD τ sig) → Buf (Elt Ideal) ℓ) (ρ : Dev nD → PrngReg)

/-- The argument as 6144 rows. -/
abbrev rows (x : FVec Ideal S2x3072x50304 .bf16) : FVec Ideal S6144x50304 .bf16 :=
  shapeCast S6144x50304 x shapeCasts_S2x3072x50304_S6144x50304

/-- The reference's run: its three results as the arrays named above. -/
theorem run : θ_run defs (onTc (τ := τ) (main (F := Ideal))) ⟨m, fun _ => 0, ρ⟩ fun r => ∀ c : Dev nD,
      r.2.mem ((c.tc : Thread nD τ).loc main_v13) = relA (rows (m ((c.tc : Thread nD τ).loc main_arg0)))
      ∧ r.2.mem ((c.tc : Thread nD τ).loc main_v35) = codeA (rows (m ((c.tc : Thread nD τ).loc main_arg0)))
      ∧ r.2.mem ((c.tc : Thread nD τ).loc main_v28) = scaleA (rows (m ((c.tc : Thread nD τ).loc main_arg0)))
      ∧ r.2.mem ((c.tc : Thread nD τ).loc main_arg0) = m ((c.tc : Thread nD τ).loc main_arg0) :=
  by
    unfold scaleA codeA invA expA amaxA lseA relA termA minA maxA zA
    exact Cert.ReferenceIdeal.Value.run m ρ

end Cert.ReferenceIdeal.RefValue

end
-- ==== Proof.Agree.lean ====
module

public import proofs.«01_k».proof.Defs
public import proofs.«01_k».proof.Proof.Arrays
public import proofs.«01_k».proof.Proof.Equation
public import proofs.«01_k».proof.Proof.RefValue
public import proofs.«01_k».proof.Proof.Gen.Pre_finite_bf16

@[expose] public section

set_option maxRecDepth 16384

noncomputable section

namespace Cert.Agree

open Idealize.ShloMosaic Idealize.ShloMosaic.ValueIdx
open Cert.KernelIdeal (S2x3072x50304)
open Cert.KernelIdeal.Arrays (rows rowOf lseArr codeArr scaleArr)
open Cert.KernelIdeal.Equation (Finite)
open Cert.ReferenceIdeal.RefValue (relA codeA scaleA)

/-- The largest finite bf16 number lies below `2^128`. -/
theorem top_le : Ideal.ofBits .bf16 0x7F7F#16 ≤ ((2 ^ 128 : ℝ) : EReal) := by
  have h : Ideal.ofBits .bf16 0x7F7F#16 = ((255 * 2 ^ 120 : ℝ) : EReal) := by
    simp [Ideal.ofBits, Ideal.ieee, -EReal.coe_mul]
  rw [h]
  exact EReal.coe_le_coe_iff.mpr (by norm_num)

/-- An extended real whose absolute value does not exceed a real number is itself a real number of no larger absolute value. -/
theorem real_of_abs_le (x : EReal) (b : ℝ) (h : max x (-x) ≤ (b : EReal)) : ∃ r : ℝ, x = (r : EReal) ∧ |r| ≤ b := by
  have h1 : x ≤ b := le_trans (le_max_left _ _) h
  have h2 : -x ≤ b := le_trans (le_max_right _ _) h
  induction x with
  | bot => exact absurd h2 (by simp)
  | top => exact absurd h1 (by simp)
  | coe r =>
    refine ⟨r, rfl, abs_le'.mpr ⟨EReal.coe_le_coe_iff.mp h1, ?_⟩⟩
    rw [← EReal.coe_neg] at h2
    exact EReal.coe_le_coe_iff.mp h2

/-- The precondition at one element: the comparison says yes only of a real number no larger than `2^128`. -/
theorem real_of_pre (x : FVec Ideal S2x3072x50304 .bf16) (h : Cert.Pre_finite_bf16.fn (F := Ideal) x = fun _ => 1#1)
    (i : S2x3072x50304.Idx) : ∃ r : ℝ, x i = (r : EReal) ∧ |r| ≤ 2 ^ 128 := by
  have hi : Ideal.cmp .ole (max (x i) (-x i)) (Ideal.ofBits .bf16 0x7F7F#16) = 1#1 := congrFun h i
  refine real_of_abs_le (x i) _ (le_trans ?_ top_le)
  by_contra hn
  simp [Ideal.cmp, hn] at hi

/-- Under the precondition every row holds real numbers only. -/
theorem finite_rows (x : FVec Ideal S2x3072x50304 .bf16) (h : Cert.Pre_finite_bf16.fn (F := Ideal) x = fun _ => 1#1)
    (r : Fin 6144) : Finite (rowOf (rows x) r) := fun _ => real_of_pre x h _

section
variable (X : FVec Ideal Cert.KernelIdeal.S6144x50304 .bf16) (hX : ∀ r, Finite (rowOf X r))
include hX

/-- The reference's first result is the kernel's. -/
theorem lse_agree : relA X = lseArr X := by
  funext i
  exact (congrArg (relA X) (eq_ix2 i)).trans ((Cert.ReferenceIdeal.RefValue.relA_at X (i 0) (i 1)).trans
    (Cert.KernelIdeal.Equation.lseRel_eq _ (hX (i 0))).symm)

/-- The reference's second result is the kernel's. -/
theorem code_agree : codeA X = codeArr X := by
  funext i
  exact (congrArg (codeA X) (eq_ix2 i)).trans ((Cert.ReferenceIdeal.RefValue.codeA_at X (i 0) (i 1)).trans
    (Cert.KernelIdeal.Equation.code_eq _ (hX (i 0)) (i 1)).symm)

/-- The reference's third result is the kernel's. -/
theorem scale_agree : scaleA X = scaleArr X := by
  funext i
  exact (congrArg (scaleA X) (eq_ix2 i)).trans ((Cert.ReferenceIdeal.RefValue.scaleA_at X (i 0) (i 1)).trans
    (Cert.KernelIdeal.Equation.scale_eq _ (hX (i 0))).symm)

end

end Cert.Agree

end
-- ==== Proof.lean ====
module

public import proofs.«01_k».proof.Defs
public import proofs.«01_k».proof.Proof.Agree
public import proofs.«01_k».proof.Proof.Gen.Kernel.Frame
public import proofs.«01_k».proof.Proof.Gen.KernelIdeal.Frame
public import Idealize.ShloMosaic.Adequacy
public import Idealize.ShloMosaic.Init
public import Idealize.ShloMosaic.Lib.Quiescent

@[expose] public section

noncomputable section

namespace Cert.Proof

open Idealize.ShloMosaic Idealize.SL.Sem

/-- The kernel as printed runs to the end from any memory and leaves its argument and every semaphore as they were. -/
theorem frame_p : Cert.quiescent_Kernel := fun m ρ _ => Cert.Kernel.Gen.frame m ρ

/-- So does the idealized kernel. -/
theorem frame_pi : Cert.quiescent_KernelIdeal := fun m ρ _ => Cert.KernelIdeal.Gen.frame m ρ

/-- So does the idealized reference, which has no semaphores. -/
theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.RefValue.run m ρ)

/-- The one named constant has the value its name stands for. -/
theorem preserves : Cert.preserves_Kernel_KernelIdeal :=
  IdealRules.named_const.statement Cert.KernelIdeal.κ "log2e_over_temperature" .f32 0x3FE6D4CA#32
    (((Real.log 2)⁻¹ * (13421773 / 16777216)⁻¹ : ℝ) : EReal) rfl

/-- From the same finite argument the idealized kernel and the idealized reference end with the same three arrays: the
    log-sums, the codes and the scales. -/
theorem algebraic : Cert.algebraic_KernelIdeal_ReferenceIdeal_pre_finite_bf16 := by
  intro m ρ m' ρ' hpre hagree
  refine ⟨_, _, _, Cert.KernelIdeal.Arrays.run m ρ, ?_⟩
  refine (θ_run Cert.ReferenceIdeal.defs _ _).mono (fun _ h c => ?_) (Cert.ReferenceIdeal.RefValue.run m' ρ')
  obtain ⟨h0, h1, h2, h3⟩ := h c
  rw [hagree c] at h0 h1 h2
  have hX := Cert.Agree.finite_rows _ (hpre c)
  exact ⟨h0.trans (Cert.Agree.lse_agree _ hX), h1.trans (Cert.Agree.code_agree _ hX), h2.trans (Cert.Agree.scale_agree _ hX), h3⟩

/-- Everything claimed. -/
theorem claim : Cert.Claim :=
  ⟨Cert.Kernel.Gen.facts, Cert.KernelIdeal.Gen.facts, Cert.ReferenceIdeal.Gen.facts, Cert.Pre_finite_bf16.Gen.facts,
    frame_p, frame_pi, fun m ρ _ => frame_pi m ρ trivial, frame_ri, fun m ρ _ => frame_ri m ρ trivial, preserves, algebraic⟩

end Cert.Proof

end
